-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_separated [hPre_separated : Cert.Pre_separated.Facts] (m : (ℓ : Loc Cert.KernelIdeal.nD Cert.KernelIdeal.τ Cert.KernelIdeal.sig) → Buf (Elt Ideal) ℓ) : Prop :=
  ∀ c : Dev Cert.KernelIdeal.nD,
    (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_bounded [hPre_bounded : Cert.Pre_bounded.Facts] (m : (ℓ : Loc Cert.KernelIdeal.nD Cert.KernelIdeal.τ Cert.KernelIdeal.sig) → Buf (Elt Ideal) ℓ) : Prop :=
  ∀ c : Dev Cert.KernelIdeal.nD,
    (Cert.Pre_bounded.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_separated [hPre_separated : Cert.Pre_separated.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_LeveledIdeal (m : (ℓ : Loc Cert.LeveledIdeal.nD Cert.LeveledIdeal.τ Cert.LeveledIdeal.sig) → Buf (Elt Ideal) ℓ) : Prop :=
  True

def Pre_LeveledIdeal_bounded [hPre_bounded : Cert.Pre_bounded.Facts] (m : (ℓ : Loc Cert.LeveledIdeal.nD Cert.LeveledIdeal.τ Cert.LeveledIdeal.sig) → Buf (Elt Ideal) ℓ) : Prop :=
  ∀ c : Dev Cert.LeveledIdeal.nD,
    (Cert.Pre_bounded.fn (F := Ideal) (m ((c.tc : Thread Cert.LeveledIdeal.nD Cert.LeveledIdeal.τ).loc Cert.LeveledIdeal.main_arg0)) (m ((c.tc : Thread Cert.LeveledIdeal.nD Cert.LeveledIdeal.τ).loc Cert.LeveledIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_separated [hKernelIdeal : Cert.KernelIdeal.Facts] [hPre_separated : Cert.Pre_separated.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_separated m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_bounded [hKernelIdeal : Cert.KernelIdeal.Facts] [hPre_bounded : Cert.Pre_bounded.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_bounded m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_separated [hReferenceIdeal : Cert.ReferenceIdeal.Facts] [hPre_separated : Cert.Pre_separated.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_separated m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_LeveledIdeal [hLeveledIdeal : Cert.LeveledIdeal.Facts] : Prop :=
  ∀ (m : (ℓ : Loc Cert.LeveledIdeal.nD Cert.LeveledIdeal.τ Cert.LeveledIdeal.sig) → Buf (Elt Ideal) ℓ) (g : Dev Cert.LeveledIdeal.nD → PrngReg), Pre_LeveledIdeal m →
    θ_run (Cert.LeveledIdeal.defs (F := Ideal)) (onTc (τ := Cert.LeveledIdeal.τ) (Cert.LeveledIdeal.main (F := Ideal))) ⟨m, fun _ => 0, g⟩ (fun r => (∀ c : Dev Cert.LeveledIdeal.nD,
      r.2.mem ((c.tc : Thread Cert.LeveledIdeal.nD Cert.LeveledIdeal.τ).loc Cert.LeveledIdeal.main_arg0) = m ((c.tc : Thread Cert.LeveledIdeal.nD Cert.LeveledIdeal.τ).loc Cert.LeveledIdeal.main_arg0)
      ∧ r.2.mem ((c.tc : Thread Cert.LeveledIdeal.nD Cert.LeveledIdeal.τ).loc Cert.LeveledIdeal.main_arg1) = m ((c.tc : Thread Cert.LeveledIdeal.nD Cert.LeveledIdeal.τ).loc Cert.LeveledIdeal.main_arg1))
      ∧ r.2.sem = fun _ => 0)

def quiescent_LeveledIdeal_pre_bounded [hLeveledIdeal : Cert.LeveledIdeal.Facts] [hPre_bounded : Cert.Pre_bounded.Facts] : Prop :=
  ∀ (m : (ℓ : Loc Cert.LeveledIdeal.nD Cert.LeveledIdeal.τ Cert.LeveledIdeal.sig) → Buf (Elt Ideal) ℓ) (g : Dev Cert.LeveledIdeal.nD → PrngReg), Pre_LeveledIdeal_bounded m →
    θ_run (Cert.LeveledIdeal.defs (F := Ideal)) (onTc (τ := Cert.LeveledIdeal.τ) (Cert.LeveledIdeal.main (F := Ideal))) ⟨m, fun _ => 0, g⟩ (fun r => (∀ c : Dev Cert.LeveledIdeal.nD,
      r.2.mem ((c.tc : Thread Cert.LeveledIdeal.nD Cert.LeveledIdeal.τ).loc Cert.LeveledIdeal.main_arg0) = m ((c.tc : Thread Cert.LeveledIdeal.nD Cert.LeveledIdeal.τ).loc Cert.LeveledIdeal.main_arg0)
      ∧ r.2.mem ((c.tc : Thread Cert.LeveledIdeal.nD Cert.LeveledIdeal.τ).loc Cert.LeveledIdeal.main_arg1) = m ((c.tc : Thread Cert.LeveledIdeal.nD Cert.LeveledIdeal.τ).loc Cert.LeveledIdeal.main_arg1))
      ∧ r.2.sem = fun _ => 0)

def preserves_Kernel_KernelIdeal : Prop :=
  IdealRules.named_const.Statement Cert.KernelIdeal.κ "inv_t" .f32 0x3FB6DB6E#32 ((16777216 / 11744051 : ℝ) : EReal)

def algebraic_KernelIdeal_ReferenceIdeal_pre_separated [hKernelIdeal : Cert.KernelIdeal.Facts] [hReferenceIdeal : Cert.ReferenceIdeal.Facts] [hPre_separated : Cert.Pre_separated.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_separated m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def algebraic_KernelIdeal_LeveledIdeal_pre_bounded [hKernelIdeal : Cert.KernelIdeal.Facts] [hLeveledIdeal : Cert.LeveledIdeal.Facts] [hPre_bounded : Cert.Pre_bounded.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.LeveledIdeal.nD Cert.LeveledIdeal.τ Cert.LeveledIdeal.sig) → Buf (Elt Ideal) ℓ) (g' : Dev Cert.LeveledIdeal.nD → PrngReg), Pre_KernelIdeal_bounded m →
    (∀ c : Dev Cert.KernelIdeal.nD,
      m' ((c.tc : Thread Cert.LeveledIdeal.nD Cert.LeveledIdeal.τ).loc Cert.LeveledIdeal.main_arg0) = m ((c.tc : Thread Cert.KernelIdeal.nD Cert.KernelIdeal.τ).loc Cert.KernelIdeal.main_arg0)
      ∧ m' ((c.tc : Thread Cert.LeveledIdeal.nD Cert.LeveledIdeal.τ).loc Cert.LeveledIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.LeveledIdeal.defs (F := Ideal)) (onTc (τ := Cert.LeveledIdeal.τ) (Cert.LeveledIdeal.main (F := Ideal))) ⟨m', fun _ => 0, g'⟩ (fun r => ∀ c : Dev Cert.LeveledIdeal.nD,
          r.2.mem ((c.tc : Thread Cert.LeveledIdeal.nD Cert.LeveledIdeal.τ).loc Cert.LeveledIdeal.main_v50) = v0 c
          ∧ r.2.mem ((c.tc : Thread Cert.LeveledIdeal.nD Cert.LeveledIdeal.τ).loc Cert.LeveledIdeal.main_arg0) = m' ((c.tc : Thread Cert.LeveledIdeal.nD Cert.LeveledIdeal.τ).loc Cert.LeveledIdeal.main_arg0)
          ∧ r.2.mem ((c.tc : Thread Cert.LeveledIdeal.nD Cert.LeveledIdeal.τ).loc Cert.LeveledIdeal.main_arg1) = m' ((c.tc : Thread Cert.LeveledIdeal.nD Cert.LeveledIdeal.τ).loc Cert.LeveledIdeal.main_arg1))

def Claim : Prop :=
  ∃ (hKernel : Cert.Kernel.Facts) (hKernelIdeal : Cert.KernelIdeal.Facts) (hReferenceIdeal : Cert.ReferenceIdeal.Facts) (hLeveledIdeal : Cert.LeveledIdeal.Facts) (hPre_separated : Cert.Pre_separated.Facts) (hPre_bounded : Cert.Pre_bounded.Facts),
    quiescent_Kernel (hKernel := hKernel)
    ∧ quiescent_KernelIdeal (hKernelIdeal := hKernelIdeal)
    ∧ quiescent_KernelIdeal_pre_separated (hKernelIdeal := hKernelIdeal) (hPre_separated := hPre_separated)
    ∧ quiescent_KernelIdeal_pre_bounded (hKernelIdeal := hKernelIdeal) (hPre_bounded := hPre_bounded)
    ∧ quiescent_ReferenceIdeal (hReferenceIdeal := hReferenceIdeal)
    ∧ quiescent_ReferenceIdeal_pre_separated (hReferenceIdeal := hReferenceIdeal) (hPre_separated := hPre_separated)
    ∧ quiescent_LeveledIdeal (hLeveledIdeal := hLeveledIdeal)
    ∧ quiescent_LeveledIdeal_pre_bounded (hLeveledIdeal := hLeveledIdeal) (hPre_bounded := hPre_bounded)
    ∧ preserves_Kernel_KernelIdeal
    ∧ algebraic_KernelIdeal_ReferenceIdeal_pre_separated (hKernelIdeal := hKernelIdeal) (hReferenceIdeal := hReferenceIdeal) (hPre_separated := hPre_separated)
    ∧ algebraic_KernelIdeal_LeveledIdeal_pre_bounded (hKernelIdeal := hKernelIdeal) (hLeveledIdeal := hLeveledIdeal) (hPre_bounded := hPre_bounded)
-- ==== Pre_bounded.lean ====
abbrev S128x100000 : Shape := ⟨2, ![128, 100000]⟩
abbrev S_ : Shape := ⟨0, ![]⟩
abbrev S128 : Shape := ⟨1, ![128]⟩

class Facts : Prop where
  bcast_S_S128x100000 : S_.BroadcastsInDim S128x100000 (![] : Fin 0 → Fin S128x100000.rank)
  reducesTo_S128x100000_S128_d1 : S128x100000.ReducesTo [1] S128
  h_S_ : 0 < S_.numel
  bcast_S_S128 : S_.BroadcastsInDim S128 (![] : Fin 0 → Fin S128.rank)
  reducesTo_S128_S_d0 : S128.ReducesTo [0] S_

variable [Facts]

def fn {F : FTy → Type} [FloatOps F] (main_arg0 : FVec F S128x100000 .f32) (main_arg1 : FVec F S128x100000 .f32) : IVec S_ 1 :=
  let main_cst : FVec F S_ .f32 := constant S_ .f32 0x3F800000#32
  let main_v0 : FVec F S128x100000 .f32 := broadcastInDim S128x100000 ![] bcast_S_S128x100000 main_cst
  let main_v1 : FVec F S128x100000 .f32 := mulf main_v0 main_arg1
  let main_v2 : FVec F S128x100000 .f32 := addf main_arg0 main_v1
  let main_cst_0 : FVec F S_ .f32 := constant S_ .f32 0x3F333333#32
  let main_v3 : FVec F S128x100000 .f32 := broadcastInDim S128x100000 ![] bcast_S_S128x100000 main_cst_0
  let main_v4 : FVec F S128x100000 .f32 := Host.divf main_v2 main_v3
  let main_cst_1 : FVec F S_ .f32 := constant S_ .f32 0xFF800000#32
  let main_v5 : FVec F S128 .f32 := (fun x v => Host.reduce FloatOps.maximumf x v reducesTo_S128x100000_S128_d1 h_S_) main_v4 main_cst_1
  let main_v6 : FVec F S128 .f32 := Host.absf main_v5
  let main_cst_2 : FVec F S_ .f32 := constant S_ .f32 0x7F800000#32
  let main_v7 : FVec F S128 .f32 := broadcastInDim S128 ![] bcast_S_S128 main_cst_2
  let main_v8 : IVec S128 1 := cmpf .olt main_v6 main_v7
  let main_c : IVec S_ 1 := constantI S_ 1 1#1
  let main_v9 : IVec S_ 1 := (fun x v => Host.reduce IntOp.andi x v reducesTo_S128_S_d0 h_S_) main_v8 main_c
  main_v9
-- ==== Pre_separated.lean ====
abbrev S128x100000 : Shape := ⟨2, ![128, 100000]⟩
abbrev S_ : Shape := ⟨0, ![]⟩
abbrev S128x100000x1 : Shape := ⟨3, ![128, 100000, 1]⟩
abbrev S1 : Shape := ⟨1, ![1]⟩
abbrev S1x1x1 : Shape := ⟨3, ![1, 1, 1]⟩
abbrev S128 : Shape := ⟨1, ![128]⟩
abbrev S128x1 : Shape := ⟨2, ![128, 1]⟩
abbrev S128x99999 : Shape := ⟨2, ![128, 99999]⟩

class Facts : Prop where
  bcast_S_S128x100000 : S_.BroadcastsInDim S128x100000 (![] : Fin 0 → Fin S128x100000.rank)
  shapeCasts_S128x100000_S128x100000x1 : S128x100000.ShapeCasts S128x100000x1
  bcast_S_S128x100000x1 : S_.BroadcastsInDim S128x100000x1 (![] : Fin 0 → Fin S128x100000x1.rank)
  bcast_S1_S1x1x1_2 : S1.BroadcastsInDim S1x1x1 (![2] : Fin 1 → Fin S1x1x1.rank)
  bcast_S1x1x1_S128x100000x1_0_1_2 : S1x1x1.BroadcastsInDim S128x100000x1 (![0, 1, 2] : Fin 3 → Fin S128x100000x1.rank)
  reducesTo_S128x100000x1_S128x100000_d2 : S128x100000x1.ReducesTo [2] S128x100000
  h_S_ : 0 < S_.numel
  reducesTo_S128x100000_S128_d1 : S128x100000.ReducesTo [1] S128
  bcast_S_S128 : S_.BroadcastsInDim S128 (![] : Fin 0 → Fin S128.rank)
  bcast_S128_S128x1_0 : S128.BroadcastsInDim S128x1 (![0] : Fin 1 → Fin S128x1.rank)
  bcast_S128x1_S128x100000_0_1 : S128x1.BroadcastsInDim S128x100000 (![0, 1] : Fin 2 → Fin S128x100000.rank)
  bcast_S_S_ : S_.BroadcastsInDim S_ (![] : Fin 0 → Fin S_.rank)
  reduceWindows_S128x100000_S128x100000_w1s1p0_0_w100000s1p99999_0 : S128x100000.ReduceWindows (![1, 100000] : Fin 2 → Nat) ![1, 1] ![0, 99999] ![0, 0] S128x100000
  bcast_S_S1 : S_.BroadcastsInDim S1 (![] : Fin 0 → Fin S1.rank)
  bcast_S_S128x1 : S_.BroadcastsInDim S128x1 (![] : Fin 0 → Fin S128x1.rank)
  slices_S128x100000_S128x1_0_0 : S128x100000.Slices ![0, 0] S128x1
  slices_S128x100000_S128x99999_0_0 : S128x100000.Slices ![0, 0] S128x99999
  slices_S128x100000_S128x99999_0_1 : S128x100000.Slices ![0, 1] S128x99999
  bcast_S_S128x99999 : S_.BroadcastsInDim S128x99999 (![] : Fin 0 → Fin S128x99999.rank)
  reducesTo_S128x1_S_d0_1 : S128x1.ReducesTo [0, 1] S_
  reducesTo_S128x99999_S_d0_1 : S128x99999.ReducesTo [0, 1] S_
  gather_S128x100000_S128x100000x1_S128x100000_n_1_0_0_1_2_11_wf : GatherDims.WF S128x100000 S128x100000x1 S128x100000 [] [1] [0] [1] [0] 2 ![1, 1]
  scatter_S128x100000_S1_S128x1_01_n_1_0_wf : ScatterDims.WF S128x100000 S1 S128x1 [0, 1] [] [1] 0

variable [Facts]

variable {F : FTy → Type} [FloatOps F]
def comparator_f32_i32_d1 : F .f32 × BitVec 32 → F .f32 × BitVec 32 → BitVec 1 :=
  fun l r =>
    let cst := FloatOps.ofBits .f32 0x00000000#32
    let v2 := FloatOps.cmpf .oeq l.1 cst
    let cst_0 := FloatOps.ofBits .f32 0x00000000#32
    let v3 := Scalar.select v2 cst_0 l.1
    let v4 := FloatOps.cmpf .une l.1 l.1
    let cst_1 := FloatOps.ofBits .f32 0x7FC00000#32
    let v5 := Scalar.select v4 cst_1 v3
    let cst_2 := FloatOps.ofBits .f32 0x00000000#32
    let v6 := FloatOps.cmpf .oeq r.1 cst_2
    let cst_3 := FloatOps.ofBits .f32 0x00000000#32
    let v7 := Scalar.select v6 cst_3 r.1
    let v8 := FloatOps.cmpf .une r.1 r.1
    let cst_4 := FloatOps.ofBits .f32 0x7FC00000#32
    let v9 := Scalar.select v8 cst_4 v7
    let v10 := FloatOps.cmpfTotal .lt v5 v9
    v10
def gather_S128x100000_S128x100000x1_S128x100000_n_1_0_0_1_2_11 : GatherDims S128x100000 S128x100000x1 S128x100000 where
  offsetDims := []
  collapsedSliceDims := [1]
  operandBatchingDims := [0]
  startIndicesBatchingDims := [0]
  startIndexMap := [1]
  indexVectorDim := 2
  sliceSizes := ![1, 1]
  wf := gather_S128x100000_S128x100000x1_S128x100000_n_1_0_0_1_2_11_wf
def scatter_S128x100000_S1_S128x1_01_n_1_0 : ScatterDims S128x100000 S1 S128x1 where
  updateWindowDims := [0, 1]
  insertedWindowDims := []
  scatterDimsToOperandDims := [1]
  indexVectorDim := 0
  wf := scatter_S128x100000_S1_S128x1_01_n_1_0_wf

def fn_argsort {F : FTy → Type} [FloatOps F] (arg0 : FVec F S128x100000 .f32) : IVec S128x100000 32 :=
  let v0 : IVec S128x100000 32 := iotaInDim S128x100000 32 1
  let v1_0 : FVec F S128x100000 .f32 := (fun x y => (Host.sort2 S128x100000 1 comparator_f32_i32_d1 x y).1) arg0 v0
  let v1_1 : IVec S128x100000 32 := (fun x y => (Host.sort2 S128x100000 1 comparator_f32_i32_d1 x y).2) arg0 v0
  v1_1

def fn_take_along_axis {F : FTy → Type} [FloatOps F] (arg0 : FVec F S128x100000 .f32) (arg1 : IVec S128x100000 32) : FVec F S128x100000 .f32 :=
  let c : IVec S_ 32 := constantI S_ 32 0#32
  let v0 : IVec S128x100000 32 := broadcastInDim S128x100000 ![] bcast_S_S128x100000 c
  let v1 : IVec S128x100000 1 := cmpi .slt arg1 v0
  let c_0 : IVec S_ 32 := constantI S_ 32 100000#32
  let v2 : IVec S128x100000 32 := broadcastInDim S128x100000 ![] bcast_S_S128x100000 c_0
  let v3 : IVec S128x100000 32 := addi arg1 v2
  let v4 : IVec S128x100000 32 := select v1 v3 arg1
  let v5 : IVec S128x100000x1 32 := shapeCast S128x100000x1 v4 shapeCasts_S128x100000_S128x100000x1
  let c_1 : IVec S1 32 := constantI S1 32 99999#32
  let c_2 : IVec S_ 32 := constantI S_ 32 0#32
  let v6 : IVec S128x100000x1 32 := broadcastInDim S128x100000x1 ![] bcast_S_S128x100000x1 c_2
  let v7 : IVec S128x100000x1 1 := cmpi .sge v5 v6
  let v8 : IVec S1x1x1 32 := broadcastInDim S1x1x1 ![2] bcast_S1_S1x1x1_2 c_1
  let v9 : IVec S128x100000x1 32 := broadcastInDim S128x100000x1 ![0, 1, 2] bcast_S1x1x1_S128x100000x1_0_1_2 v8
  let v10 : IVec S128x100000x1 1 := cmpi .sle v5 v9
  let v11 : IVec S128x100000x1 1 := andi v7 v10
  let c_3 : IVec S_ 1 := constantI S_ 1 1#1
  let v12 : IVec S128x100000 1 := (fun x v => Host.reduce IntOp.andi x v reducesTo_S128x100000x1_S128x100000_d2 h_S_) v11 c_3
  let v13 : FVec F S128x100000 .f32 := (fun x i => Host.gather gather_S128x100000_S128x100000x1_S128x100000_n_1_0_0_1_2_11 x i) arg0 v5
  let cst : FVec F S_ .f32 := constant S_ .f32 0x7FC00000#32
  let v14 : FVec F S128x100000 .f32 := broadcastInDim S128x100000 ![] bcast_S_S128x100000 cst
  let v15 : FVec F S128x100000 .f32 := select v12 v13 v14
  v15

def fn_cumsum_0 {F : FTy → Type} [FloatOps F] (arg0 : FVec F S128x100000 .f32) : FVec F S128x100000 .f32 :=
  let cst : FVec F S_ .f32 := constant S_ .f32 0x00000000#32
  let v0 : FVec F S_ .f32 := broadcastInDim S_ ![] bcast_S_S_ cst
  let v1 : FVec F S128x100000 .f32 := (fun x v => Host.reduceWindowAdd ![1, 100000] ![1, 1] ![0, 99999] ![0, 0] x v reduceWindows_S128x100000_S128x100000_w1s1p0_0_w100000s1p99999_0 h_S_) arg0 v0
  v1

def fn_cumsum {F : FTy → Type} [FloatOps F] (arg0 : FVec F S128x100000 .f32) : FVec F S128x100000 .f32 :=
  let v0 : FVec F S128x100000 .f32 := fn_cumsum_0 (F := F) arg0
  v0

def fn_part2 {F : FTy → Type} [FloatOps F] (main_v28 : IVec S128x1 1) (main_v33 : IVec S128x99999 1) (main_v37 : IVec S128x99999 1) : IVec S_ 1 :=
  let main_c_8 : IVec S_ 1 := constantI S_ 1 1#1
  let main_v38 : IVec S_ 1 := (fun x v => Host.reduce IntOp.andi x v reducesTo_S128x1_S_d0_1 h_S_) main_v28 main_c_8
  let main_v39 : IVec S128x99999 1 := ori main_v37 main_v33
  let main_c_9 : IVec S_ 1 := constantI S_ 1 1#1
  let main_v40 : IVec S_ 1 := (fun x v => Host.reduce IntOp.andi x v reducesTo_S128x99999_S_d0_1 h_S_) main_v39 main_c_9
  let main_v41 : IVec S_ 1 := andi main_v38 main_v40
  main_v41

def fn_part1 {F : FTy → Type} [FloatOps F] (main_v7 : FVec F S128x100000 .f32) (main_v18 : FVec F S128x100000 .f32) : IVec S_ 1 :=
  let main_v19 : FVec F S128x100000 .f32 := fn_cumsum (F := F) main_v18
  let main_cst_4 : FVec F S_ .f32 := constant S_ .f32 0x3F666666#32
  let main_v20 : FVec F S128x100000 .f32 := broadcastInDim S128x100000 ![] bcast_S_S128x100000 main_cst_4
  let main_v21 : IVec S128x100000 1 := cmpf .ogt main_v19 main_v20
  let main_c : IVec S_ 32 := constantI S_ 32 0#32
  let main_v22 : IVec S1 32 := broadcastInDim S1 ![] bcast_S_S1 main_c
  let main_c_5 : IVec S_ 1 := constantI S_ 1 0#1
  let main_v23 : IVec S128x1 1 := broadcastInDim S128x1 ![] bcast_S_S128x1 main_c_5
  let main_v24 : IVec S128x100000 1 := (fun x i u => Host.scatter scatter_S128x100000_S1_S128x1_01_n_1_0 (fun _ b => b) x i u) main_v21 main_v22 main_v23
  let main_v25 : FVec F S128x1 .f32 := (extractStridedSlice S128x1 ![0, 0] · slices_S128x100000_S128x1_0_0) main_v7
  let main_v26 : FVec F S128x1 .f32 := Host.absf main_v25
  let main_cst_6 : FVec F S_ .f32 := constant S_ .f32 0x7F800000#32
  let main_v27 : FVec F S128x1 .f32 := broadcastInDim S128x1 ![] bcast_S_S128x1 main_cst_6
  let main_v28 : IVec S128x1 1 := cmpf .olt main_v26 main_v27
  let main_v29 : FVec F S128x99999 .f32 := (extractStridedSlice S128x99999 ![0, 0] · slices_S128x100000_S128x99999_0_0) main_v7
  let main_v30 : FVec F S128x99999 .f32 := (extractStridedSlice S128x99999 ![0, 1] · slices_S128x100000_S128x99999_0_1) main_v7
  let main_v31 : FVec F S128x99999 .f32 := subf main_v29 main_v30
  let main_cst_7 : FVec F S_ .f32 := constant S_ .f32 0x3C880000#32
  let main_v32 : FVec F S128x99999 .f32 := broadcastInDim S128x99999 ![] bcast_S_S128x99999 main_cst_7
  let main_v33 : IVec S128x99999 1 := cmpf .oge main_v31 main_v32
  let main_v34 : IVec S128x99999 1 := (extractStridedSlice S128x99999 ![0, 0] · slices_S128x100000_S128x99999_0_0) main_v24
  let main_v35 : IVec S128x99999 1 := (extractStridedSlice S128x99999 ![0, 1] · slices_S128x100000_S128x99999_0_1) main_v24
  let main_v36 : IVec S128x99999 1 := noti main_v35
  let main_v37 : IVec S128x99999 1 := ori main_v34 main_v36
  fn_part2 (F := F) main_v28 main_v33 main_v37

def fn {F : FTy → Type} [FloatOps F] (main_arg0 : FVec F S128x100000 .f32) (main_arg1 : FVec F S128x100000 .f32) : IVec S_ 1 :=
  let main_cst : FVec F S_ .f32 := constant S_ .f32 0x3F800000#32
  let main_v0 : FVec F S128x100000 .f32 := broadcastInDim S128x100000 ![] bcast_S_S128x100000 main_cst
  let main_v1 : FVec F S128x100000 .f32 := mulf main_v0 main_arg1
  let main_v2 : FVec F S128x100000 .f32 := addf main_arg0 main_v1
  let main_cst_0 : FVec F S_ .f32 := constant S_ .f32 0x3F333333#32
  let main_v3 : FVec F S128x100000 .f32 := broadcastInDim S128x100000 ![] bcast_S_S128x100000 main_cst_0
  let main_v4 : FVec F S128x100000 .f32 := Host.divf main_v2 main_v3
  let main_v5 : IVec S128x100000 32 := fn_argsort (F := F) main_v4
  let main_v6 : IVec S128x100000 32 := Host.reverse [1] main_v5
  let main_v7 : FVec F S128x100000 .f32 := fn_take_along_axis (F := F) main_v4 main_v6
  let main_cst_1 : FVec F S_ .f32 := constant S_ .f32 0xFF800000#32
  let main_v8 : FVec F S128 .f32 := (fun x v => Host.reduce FloatOps.maximumf x v reducesTo_S128x100000_S128_d1 h_S_) main_v7 main_cst_1
  let main_cst_2 : FVec F S_ .f32 := constant S_ .f32 0xFF800000#32
  let main_v9 : FVec F S128 .f32 := broadcastInDim S128 ![] bcast_S_S128 main_cst_2
  let main_v10 : FVec F S128 .f32 := maximumf main_v9 main_v8
  let main_v11 : FVec F S128x1 .f32 := broadcastInDim S128x1 ![0] bcast_S128_S128x1_0 main_v10
  let main_v12 : FVec F S128x100000 .f32 := broadcastInDim S128x100000 ![0, 1] bcast_S128x1_S128x100000_0_1 main_v11
  let main_v13 : FVec F S128x100000 .f32 := subf main_v7 main_v12
  let main_v14 : FVec F S128x100000 .f32 := Host.exp main_v13
  let main_cst_3 : FVec F S_ .f32 := constant S_ .f32 0x00000000#32
  let main_v15 : FVec F S128 .f32 := (fun x v => Host.reduceAdd x v reducesTo_S128x100000_S128_d1 h_S_) main_v14 main_cst_3
  let main_v16 : FVec F S128x1 .f32 := broadcastInDim S128x1 ![0] bcast_S128_S128x1_0 main_v15
  let main_v17 : FVec F S128x100000 .f32 := broadcastInDim S128x100000 ![0, 1] bcast_S128x1_S128x100000_0_1 main_v16
  let main_v18 : FVec F S128x100000 .f32 := Host.divf main_v14 main_v17
  fn_part1 (F := F) main_v7 main_v18
-- ==== Kernel.lean ====
abbrev S128x100000 : Shape := ⟨2, ![128, 100000]⟩
abbrev S16x100000 : Shape := ⟨2, ![16, 100000]⟩
abbrev S8x128 : Shape := ⟨2, ![8, 128]⟩
abbrev S16x12544 : Shape := ⟨2, ![16, 12544]⟩
abbrev S16 : Shape := ⟨1, ![16]⟩
abbrev S16x1 : Shape := ⟨2, ![16, 1]⟩
abbrev S16x12192 : Shape := ⟨2, ![16, 12192]⟩

abbrev nBuf : Space → Nat
  | .hbm => 3
  | .vmem => 7
  | .smem => 0
  | _ => 0

abbrev bufTy : (tb : Table) → Fin (tcTables nBuf tb) → BufTy
  | .hbm, ⟨0, _⟩ => ⟨S128x100000, .f32⟩
  | .hbm, ⟨1, _⟩ => ⟨S128x100000, .f32⟩
  | .hbm, ⟨2, _⟩ => ⟨S128x100000, .f32⟩
  | .local _ .vmem, ⟨0, _⟩ => ⟨S16x100000, .f32⟩
  | .local _ .vmem, ⟨1, _⟩ => ⟨S16x100000, .f32⟩
  | .local _ .vmem, ⟨2, _⟩ => ⟨S16x100000, .f32⟩
  | .local _ .vmem, ⟨3, _⟩ => ⟨S16x100000, .f32⟩
  | .local _ .vmem, ⟨4, _⟩ => ⟨S16x100000, .f32⟩
  | .local _ .vmem, ⟨5, _⟩ => ⟨S16x100000, .f32⟩
  | .local _ .vmem, ⟨6, _⟩ => ⟨S8x128, .f32⟩
  | _, _ => ⟨S128x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x100000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x100000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x100000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== KernelIdeal.lean ====
variable {F : FTy → Type} [FloatOps F] [Named F]
def κ : String → Option EReal := fun
  | "inv_t" => some ((16777216 / 11744051 : ℝ) : EReal)
  | _ => none
-- ==== ReferenceIdeal.lean ====
abbrev S128x100000 : Shape := ⟨2, ![128, 100000]⟩
abbrev S_ : Shape := ⟨0, ![]⟩
abbrev S128x100000x1 : Shape := ⟨3, ![128, 100000, 1]⟩
abbrev S1 : Shape := ⟨1, ![1]⟩
abbrev S1x1x1 : Shape := ⟨3, ![1, 1, 1]⟩
abbrev S128 : Shape := ⟨1, ![128]⟩
abbrev S128x1 : Shape := ⟨2, ![128, 1]⟩
abbrev S128x100000x2 : Shape := ⟨3, ![128, 100000, 2]⟩

abbrev nBuf : Space → Nat
  | .hbm => 101
  | .vmem => 0
  | .smem => 0
  | _ => 0

abbrev bufTy : (tb : Table) → Fin (tcTables nBuf tb) → BufTy
  | .hbm, ⟨0, _⟩ => ⟨S128x100000, .f32⟩
  | .hbm, ⟨1, _⟩ => ⟨S128x100000, .f32⟩
  | .hbm, ⟨2, _⟩ => ⟨S_, .f32⟩
  | .hbm, ⟨3, _⟩ => ⟨S128x100000, .f32⟩
  | .hbm, ⟨4, _⟩ => ⟨S128x100000, .f32⟩
  | .hbm, ⟨5, _⟩ => ⟨S128x100000, .f32⟩
  | .hbm, ⟨6, _⟩ => ⟨S_, .f32⟩
  | .hbm, ⟨7, _⟩ => ⟨S128x100000, .f32⟩
  | .hbm, ⟨8, _⟩ => ⟨S128x100000, .f32⟩
  | .hbm, ⟨9, _⟩ => ⟨S128x100000, .i32⟩
  | .hbm, ⟨10, _⟩ => ⟨S128x100000, .f32⟩
  | .hbm, ⟨11, _⟩ => ⟨S128x100000, .i32⟩
  | .hbm, ⟨12, _⟩ => ⟨S128x100000, .i32⟩
  | .hbm, ⟨13, _⟩ => ⟨S_, .i32⟩
  | .hbm, ⟨14, _⟩ => ⟨S128x100000, .i32⟩
  | .hbm, ⟨15, _⟩ => ⟨S128x100000, .i1⟩
  | .hbm, ⟨16, _⟩ => ⟨S_, .i32⟩
  | .hbm, ⟨17, _⟩ => ⟨S128x100000, .i32⟩
  | .hbm, ⟨18, _⟩ => ⟨S128x100000, .i32⟩
  | .hbm, ⟨19, _⟩ => ⟨S128x100000, .i32⟩
  | .hbm, ⟨20, _⟩ => ⟨S128x100000x1, .i32⟩
  | .hbm, ⟨21, _⟩ => ⟨S1, .i32⟩
  | .hbm, ⟨22, _⟩ => ⟨S_, .i32⟩
  | .hbm, ⟨23, _⟩ => ⟨S128x100000x1, .i32⟩
  | .hbm, ⟨24, _⟩ => ⟨S128x100000x1, .i1⟩
  | .hbm, ⟨25, _⟩ => ⟨S1x1x1, .i32⟩
  | .hbm, ⟨26, _⟩ => ⟨S128x100000x1, .i32⟩
  | .hbm, ⟨27, _⟩ => ⟨S128x100000x1, .i1⟩
  | .hbm, ⟨28, _⟩ => ⟨S128x100000x1, .i1⟩
  | .hbm, ⟨29, _⟩ => ⟨S_, .i1⟩
  | .hbm, ⟨30, _⟩ => ⟨S128x100000, .i1⟩
  | .hbm, ⟨31, _⟩ => ⟨S128x100000, .f32⟩
  | .hbm, ⟨32, _⟩ => ⟨S_, .f32⟩
  | .hbm, ⟨33, _⟩ => ⟨S128x100000, .f32⟩
  | .hbm, ⟨34, _⟩ => ⟨S128x100000, .f32⟩
  | .hbm, ⟨35, _⟩ => ⟨S_, .f32⟩
  | .hbm, ⟨36, _⟩ => ⟨S128, .f32⟩
  | .hbm, ⟨37, _⟩ => ⟨S_, .f32⟩
  | .hbm, ⟨38, _⟩ => ⟨S128, .f32⟩
  | .hbm, ⟨39, _⟩ => ⟨S128, .f32⟩
  | .hbm, ⟨40, _⟩ => ⟨S128x1, .f32⟩
  | .hbm, ⟨41, _⟩ => ⟨S128x100000, .f32⟩
  | .hbm, ⟨42, _⟩ => ⟨S128x100000, .f32⟩
  | .hbm, ⟨43, _⟩ => ⟨S128x100000, .f32⟩
  | .hbm, ⟨44, _⟩ => ⟨S_, .f32⟩
  | .hbm, ⟨45, _⟩ => ⟨S128, .f32⟩
  | .hbm, ⟨46, _⟩ => ⟨S128x1, .f32⟩
  | .hbm, ⟨47, _⟩ => ⟨S128x100000, .f32⟩
  | .hbm, ⟨48, _⟩ => ⟨S128x100000, .f32⟩
  | .hbm, ⟨49, _⟩ => ⟨S_, .f32⟩
  | .hbm, ⟨50, _⟩ => ⟨S_, .f32⟩
  | .hbm, ⟨51, _⟩ => ⟨S128x100000, .f32⟩
  | .hbm, ⟨52, _⟩ => ⟨S_, .f32⟩
  | .hbm, ⟨53, _⟩ => ⟨S128x100000, .f32⟩
  | .hbm, ⟨54, _⟩ => ⟨S128x100000, .i1⟩
  | .hbm, ⟨55, _⟩ => ⟨S_, .i32⟩
  | .hbm, ⟨56, _⟩ => ⟨S1, .i32⟩
  | .hbm, ⟨57, _⟩ => ⟨S_, .i1⟩
  | .hbm, ⟨58, _⟩ => ⟨S128x1, .i1⟩
  | .hbm, ⟨59, _⟩ => ⟨S128x100000, .i1⟩
  | .hbm, ⟨60, _⟩ => ⟨S128, .i32⟩
  | .hbm, ⟨61, _⟩ => ⟨S128x1, .i32⟩
  | .hbm, ⟨62, _⟩ => ⟨S_, .i1⟩
  | .hbm, ⟨63, _⟩ => ⟨S128x100000, .i1⟩
  | .hbm, ⟨64, _⟩ => ⟨S_, .i32⟩
  | .hbm, ⟨65, _⟩ => ⟨S128x1, .i32⟩
  | .hbm, ⟨66, _⟩ => ⟨S128x1, .i1⟩
  | .hbm, ⟨67, _⟩ => ⟨S_, .i32⟩
  | .hbm, ⟨68, _⟩ => ⟨S128x1, .i32⟩
  | .hbm, ⟨69, _⟩ => ⟨S128x1, .i32⟩
  | .hbm, ⟨70, _⟩ => ⟨S128x1, .i32⟩
  | .hbm, ⟨71, _⟩ => ⟨S_, .i32⟩
  | .hbm, ⟨72, _⟩ => ⟨S128x100000, .i32⟩
  | .hbm, ⟨73, _⟩ => ⟨S128x100000, .i1⟩
  | .hbm, ⟨74, _⟩ => ⟨S_, .i32⟩
  | .hbm, ⟨75, _⟩ => ⟨S128x100000, .i32⟩
  | .hbm, ⟨76, _⟩ => ⟨S128x100000, .i32⟩
  | .hbm, ⟨77, _⟩ => ⟨S128x100000, .i32⟩
  | .hbm, ⟨78, _⟩ => ⟨S128x100000, .i32⟩
  | .hbm, ⟨79, _⟩ => ⟨S128x100000x1, .i32⟩
  | .hbm, ⟨80, _⟩ => ⟨S128x100000x1, .i32⟩
  | .hbm, ⟨81, _⟩ => ⟨S128x100000x2, .i32⟩
  | .hbm, ⟨82, _⟩ => ⟨S128x100000, .i1⟩
  | .hbm, ⟨83, _⟩ => ⟨S_, .f32⟩
  | .hbm, ⟨84, _⟩ => ⟨S_, .f32⟩
  | .hbm, ⟨85, _⟩ => ⟨S128x100000, .f32⟩
  | .hbm, ⟨86, _⟩ => ⟨S128x100000, .f32⟩
  | .hbm, ⟨87, _⟩ => ⟨S_, .f32⟩
  | .hbm, ⟨88, _⟩ => ⟨S128, .f32⟩
  | .hbm, ⟨89, _⟩ => ⟨S_, .f32⟩
  | .hbm, ⟨90, _⟩ => ⟨S128, .f32⟩
  | .hbm, ⟨91, _⟩ => ⟨S128, .f32⟩
  | .hbm, ⟨92, _⟩ => ⟨S128x1, .f32⟩
  | .hbm, ⟨93, _⟩ => ⟨S128x100000, .f32⟩
  | .hbm, ⟨94, _⟩ => ⟨S128x100000, .f32⟩
  | .hbm, ⟨95, _⟩ => ⟨S128x100000, .f32⟩
  | .hbm, ⟨96, _⟩ => ⟨S_, .f32⟩
  | .hbm, ⟨97, _⟩ => ⟨S128, .f32⟩
  | .hbm, ⟨98, _⟩ => ⟨S128x1, .f32⟩
  | .hbm, ⟨99, _⟩ => ⟨S128x100000, .f32⟩
  | .hbm, ⟨100, _⟩ => ⟨S128x100000, .f32⟩
  | _, _ => ⟨S128x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_call0_v0 : Ref sig .tc := ⟨.hbm, 9, rfl⟩
abbrev main_call0_v1_0 : Ref sig .tc := ⟨.hbm, 10, rfl⟩
abbrev main_v5 : Ref sig .tc := ⟨.hbm, 11, rfl⟩
abbrev main_v6 : Ref sig .tc := ⟨.hbm, 12, rfl⟩
abbrev main_call1_c : Ref sig .tc := ⟨.hbm, 13, rfl⟩
abbrev main_call1_v0 : Ref sig .tc := ⟨.hbm, 14, rfl⟩
abbrev main_call1_v1 : Ref sig .tc := ⟨.hbm, 15, rfl⟩
abbrev main_call1_c_0 : Ref sig .tc := ⟨.hbm, 16, rfl⟩
abbrev main_call1_v2 : Ref sig .tc := ⟨.hbm, 17, rfl⟩
abbrev main_call1_v3 : Ref sig .tc := ⟨.hbm, 18, rfl⟩
abbrev main_call1_v4 : Ref sig .tc := ⟨.hbm, 19, rfl⟩
abbrev main_call1_v5 : Ref sig .tc := ⟨.hbm, 20, rfl⟩
abbrev main_call1_c_1 : Ref sig .tc := ⟨.hbm, 21, rfl⟩
abbrev main_call1_c_2 : Ref sig .tc := ⟨.hbm, 22, rfl⟩
abbrev main_call1_v6 : Ref sig .tc := ⟨.hbm, 23, rfl⟩
abbrev main_call1_v7 : Ref sig .tc := ⟨.hbm, 24, rfl⟩
abbrev main_call1_v8 : Ref sig .tc := ⟨.hbm, 25, rfl⟩
abbrev main_call1_v9 : Ref sig .tc := ⟨.hbm, 26, rfl⟩
abbrev main_call1_v10 : Ref sig .tc := ⟨.hbm, 27, rfl⟩
abbrev main_call1_v11 : Ref sig .tc := ⟨.hbm, 28, rfl⟩
abbrev main_call1_c_3 : Ref sig .tc := ⟨.hbm, 29, rfl⟩
abbrev main_call1_v12 : Ref sig .tc := ⟨.hbm, 30, rfl⟩
abbrev main_call1_v13 : Ref sig .tc := ⟨.hbm, 31, rfl⟩
abbrev main_call1_cst : Ref sig .tc := ⟨.hbm, 32, rfl⟩
abbrev main_call1_v14 : Ref sig .tc := ⟨.hbm, 33, rfl⟩
abbrev main_v7 : Ref sig .tc := ⟨.hbm, 34, rfl⟩
abbrev main_cst_1 : Ref sig .tc := ⟨.hbm, 35, rfl⟩
abbrev main_v8 : Ref sig .tc := ⟨.hbm, 36, rfl⟩
abbrev main_cst_2 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_cst_3 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_call2_call0_cst : Ref sig .tc := ⟨.hbm, 49, rfl⟩
abbrev main_call2_call0_v0 : Ref sig .tc := ⟨.hbm, 50, rfl⟩
abbrev main_v19 : Ref sig .tc := ⟨.hbm, 51, rfl⟩
abbrev main_cst_4 : Ref sig .tc := ⟨.hbm, 52, rfl⟩
abbrev main_v20 : Ref sig .tc := ⟨.hbm, 53, rfl⟩
abbrev main_v21 : Ref sig .tc := ⟨.hbm, 54, rfl⟩
abbrev main_c : Ref sig .tc := ⟨.hbm, 55, rfl⟩
abbrev main_v22 : Ref sig .tc := ⟨.hbm, 56, rfl⟩
abbrev main_c_5 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_c_6 : Ref sig .tc := ⟨.hbm, 62, rfl⟩
abbrev main_v27 : Ref sig .tc := ⟨.hbm, 63, rfl⟩
abbrev main_c_7 : Ref sig .tc := ⟨.hbm, 64, rfl⟩
abbrev main_v28 : Ref sig .tc := ⟨.hbm, 65, rfl⟩
abbrev main_v29 : Ref sig .tc := ⟨.hbm, 66, rfl⟩
abbrev main_c_8 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_c_9 : Ref sig .tc := ⟨.hbm, 71, rfl⟩
abbrev main_v33 : Ref sig .tc := ⟨.hbm, 72, rfl⟩
abbrev main_v34 : Ref sig .tc := ⟨.hbm, 73, rfl⟩
abbrev main_c_10 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_cst_11 : Ref sig .tc := ⟨.hbm, 83, rfl⟩
abbrev main_call3_v0 : Ref sig .tc := ⟨.hbm, 84, rfl⟩
abbrev main_call3_v1 : Ref sig .tc := ⟨.hbm, 85, rfl⟩
abbrev main_v43 : Ref sig .tc := ⟨.hbm, 86, rfl⟩
abbrev main_cst_12 : Ref sig .tc := ⟨.hbm, 87, rfl⟩
abbrev main_v44 : Ref sig .tc := ⟨.hbm, 88, rfl⟩
abbrev main_cst_13 : Ref sig .tc := ⟨.hbm, 89, rfl⟩
abbrev main_v45 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩
abbrev main_v50 : Ref sig .tc := ⟨.hbm, 95, rfl⟩
abbrev main_cst_14 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩

abbrev nD : Nat := 1
abbrev τ : Topo := Topo.v7x

variable {F : FTy → Type} [FloatOps F]
-- ==== LeveledIdeal.lean ====
abbrev S128x100000 : Shape := ⟨2, ![128, 100000]⟩
abbrev S_ : Shape := ⟨0, ![]⟩
abbrev S128 : Shape := ⟨1, ![128]⟩
abbrev S128x1 : Shape := ⟨2, ![128, 1]⟩
abbrev S1025 : Shape := ⟨1, ![1025]⟩
abbrev S128x1x100000 : Shape := ⟨3, ![128, 1, 100000]⟩
abbrev S1025x1 : Shape := ⟨2, ![1025, 1]⟩
abbrev S1x1025x1 : Shape := ⟨3, ![1, 1025, 1]⟩
abbrev S128x1025x100000 : Shape := ⟨3, ![128, 1025, 100000]⟩
abbrev S128x1025 : Shape := ⟨2, ![128, 1025]⟩

abbrev nBuf : Space → Nat
  | .hbm => 77
  | .vmem => 0
  | .smem => 0
  | _ => 0

abbrev bufTy : (tb : Table) → Fin (tcTables nBuf tb) → BufTy
  | .hbm, ⟨0, _⟩ => ⟨S128x100000, .f32⟩
  | .hbm, ⟨1, _⟩ => ⟨S128x100000, .f32⟩
  | .hbm, ⟨2, _⟩ => ⟨S_, .f32⟩
  | .hbm, ⟨3, _⟩ => ⟨S128x100000, .f32⟩
  | .hbm, ⟨4, _⟩ => ⟨S128x100000, .f32⟩
  | .hbm, ⟨5, _⟩ => ⟨S128x100000, .f32⟩
  | .hbm, ⟨6, _⟩ => ⟨S_, .f32⟩
  | .hbm, ⟨7, _⟩ => ⟨S128x100000, .f32⟩
  | .hbm, ⟨8, _⟩ => ⟨S128x100000, .f32⟩
  | .hbm, ⟨9, _⟩ => ⟨S_, .f32⟩
  | .hbm, ⟨10, _⟩ => ⟨S128, .f32⟩
  | .hbm, ⟨11, _⟩ => ⟨S128x1, .f32⟩
  | .hbm, ⟨12, _⟩ => ⟨S128x100000, .f32⟩
  | .hbm, ⟨13, _⟩ => ⟨S128x100000, .f32⟩
  | .hbm, ⟨14, _⟩ => ⟨S128x100000, .f32⟩
  | .hbm, ⟨15, _⟩ => ⟨S1025, .i32⟩
  | .hbm, ⟨16, _⟩ => ⟨S1025, .f32⟩
  | .hbm, ⟨17, _⟩ => ⟨S_, .f32⟩
  | .hbm, ⟨18, _⟩ => ⟨S1025, .f32⟩
  | .hbm, ⟨19, _⟩ => ⟨S1025, .f32⟩
  | .hbm, ⟨20, _⟩ => ⟨S_, .f32⟩
  | .hbm, ⟨21, _⟩ => ⟨S1025, .f32⟩
  | .hbm, ⟨22, _⟩ => ⟨S1025, .f32⟩
  | .hbm, ⟨23, _⟩ => ⟨S128x1x100000, .f32⟩
  | .hbm, ⟨24, _⟩ => ⟨S1025x1, .f32⟩
  | .hbm, ⟨25, _⟩ => ⟨S1x1025x1, .f32⟩
  | .hbm, ⟨26, _⟩ => ⟨S128x1025x100000, .f32⟩
  | .hbm, ⟨27, _⟩ => ⟨S128x1025x100000, .f32⟩
  | .hbm, ⟨28, _⟩ => ⟨S128x1025x100000, .i1⟩
  | .hbm, ⟨29, _⟩ => ⟨S128x1x100000, .f32⟩
  | .hbm, ⟨30, _⟩ => ⟨S_, .f32⟩
  | .hbm, ⟨31, _⟩ => ⟨S_, .f32⟩
  | .hbm, ⟨32, _⟩ => ⟨S128x1025x100000, .f32⟩
  | .hbm, ⟨33, _⟩ => ⟨S128x1025x100000, .f32⟩
  | .hbm, ⟨34, _⟩ => ⟨S128x1025x100000, .f32⟩
  | .hbm, ⟨35, _⟩ => ⟨S_, .f32⟩
  | .hbm, ⟨36, _⟩ => ⟨S128x1025, .f32⟩
  | .hbm, ⟨37, _⟩ => ⟨S_, .f32⟩
  | .hbm, ⟨38, _⟩ => ⟨S128, .f32⟩
  | .hbm, ⟨39, _⟩ => ⟨S128x1, .f32⟩
  | .hbm, ⟨40, _⟩ => ⟨S_, .f32⟩
  | .hbm, ⟨41, _⟩ => ⟨S128x1, .f32⟩
  | .hbm, ⟨42, _⟩ => ⟨S128x1, .f32⟩
  | .hbm, ⟨43, _⟩ => ⟨S128x1025, .f32⟩
  | .hbm, ⟨44, _⟩ => ⟨S128x1025, .i1⟩
  | .hbm, ⟨45, _⟩ => ⟨S_, .f32⟩
  | .hbm, ⟨46, _⟩ => ⟨S_, .f32⟩
  | .hbm, ⟨47, _⟩ => ⟨S128x1025, .f32⟩
  | .hbm, ⟨48, _⟩ => ⟨S128x1025, .f32⟩
  | .hbm, ⟨49, _⟩ => ⟨S128x1025, .f32⟩
  | .hbm, ⟨50, _⟩ => ⟨S_, .f32⟩
  | .hbm, ⟨51, _⟩ => ⟨S128, .f32⟩
  | .hbm, ⟨52, _⟩ => ⟨S128x1, .f32⟩
  | .hbm, ⟨53, _⟩ => ⟨S128x100000, .f32⟩
  | .hbm, ⟨54, _⟩ => ⟨S128x100000, .i1⟩
  | .hbm, ⟨55, _⟩ => ⟨S_, .f32⟩
  | .hbm, ⟨56, _⟩ => ⟨S128x100000, .f32⟩
  | .hbm, ⟨57, _⟩ => ⟨S128x100000, .i1⟩
  | .hbm, ⟨58, _⟩ => ⟨S128x100000, .i1⟩
  | .hbm, ⟨59, _⟩ => ⟨S_, .f32⟩
  | .hbm, ⟨60, _⟩ => ⟨S_, .f32⟩
  | .hbm, ⟨61, _⟩ => ⟨S128x100000, .f32⟩
  | .hbm, ⟨62, _⟩ => ⟨S128x100000, .f32⟩
  | .hbm, ⟨63, _⟩ => ⟨S_, .f32⟩
  | .hbm, ⟨64, _⟩ => ⟨S128, .f32⟩
  | .hbm, ⟨65, _⟩ => ⟨S_, .f32⟩
  | .hbm, ⟨66, _⟩ => ⟨S128, .f32⟩
  | .hbm, ⟨67, _⟩ => ⟨S128, .f32⟩
  | .hbm, ⟨68, _⟩ => ⟨S128x1, .f32⟩
  | .hbm, ⟨69, _⟩ => ⟨S128x100000, .f32⟩
  | .hbm, ⟨70, _⟩ => ⟨S128x100000, .f32⟩
  | .hbm, ⟨71, _⟩ => ⟨S128x100000, .f32⟩
  | .hbm, ⟨72, _⟩ => ⟨S_, .f32⟩
  | .hbm, ⟨73, _⟩ => ⟨S128, .f32⟩
  | .hbm, ⟨74, _⟩ => ⟨S128x1, .f32⟩
  | .hbm, ⟨75, _⟩ => ⟨S128x100000, .f32⟩
  | .hbm, ⟨76, _⟩ => ⟨S128x100000, .f32⟩
  | _, _ => ⟨S128x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_4 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_v26 : Ref sig .tc := ⟨.hbm, 39, rfl⟩
abbrev main_cst_7 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_8 : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_v31 : Ref sig .tc := ⟨.hbm, 49, rfl⟩
abbrev main_cst_9 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_10 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_11 : Ref sig .tc := ⟨.hbm, 59, rfl⟩
abbrev main_call2_v0 : Ref sig .tc := ⟨.hbm, 60, rfl⟩
abbrev main_call2_v1 : Ref sig .tc := ⟨.hbm, 61, rfl⟩
abbrev main_v39 : Ref sig .tc := ⟨.hbm, 62, rfl⟩
abbrev main_cst_12 : Ref sig .tc := ⟨.hbm, 63, rfl⟩
abbrev main_v40 : Ref sig .tc := ⟨.hbm, 64, rfl⟩
abbrev main_cst_13 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_14 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩

abbrev nD : Nat := 1
abbrev τ : Topo := Topo.v7x

variable {F : FTy → Type} [FloatOps F]
-- ==== Proof.Block.lean ====
/- What one grid point of the kernel leaves in its output block, as a function of its two input blocks: the row weights,
   their sum over eight column slices, ten halvings of an interval of thresholds, and the division by the mass kept. The
   run's own values are shown to be this function, one halving at a time. -/
module

public import proofs.«01_k».proof.Proof.Gen.KernelIdeal.Value

@[expose] public section

set_option maxRecDepth 16384

noncomputable section

namespace Cert.KernelIdeal.Block

open Cert.KernelIdeal Cert.KernelIdeal.Gen Cert.KernelIdeal.Value Idealize.ShloMosaic Idealize.ShloMosaic.TcCoe
  Idealize.SL.Sem

variable {F : FTy → Type} [FloatOps F] [Named F]

/-- Eight column slices' row values, combined pairwise as the kernel combines them. -/
def tree {α : Type} (f : α → α → α) (x0 x1 x2 x3 x4 x5 x6 x7 : α) : α :=
  f (f (f x0 x1) (f x2 x3)) (f (f x4 x5) (f x6 x7))

/-- The row sums of a slice of 12544 columns. -/
def sumWide (x : FVec F S16x12544 .f32) : FVec F S16x1 .f32 :=
  shapeCast S16x1 (multiReduction .add [1] S16 x 0x00000000#32 reduces_S16x12544_S16 (.inl rfl) rfl) shapeCasts_S16_S16x1

/-- The row sums of the last slice, of 12192 columns. -/
def sumLast (x : FVec F S16x12192 .f32) : FVec F S16x1 .f32 :=
  shapeCast S16x1 (multiReduction .add [1] S16 x 0x00000000#32 reduces_S16x12192_S16 (.inl rfl) rfl) shapeCasts_S16_S16x1

/-- The row sums of what a threshold per row keeps of a slice of 12544 columns. -/
def keepWide (q : FVec F S16x1 .f32) (x : FVec F S16x12544 .f32) : FVec F S16x1 .f32 :=
  sumWide (select (cmpf .oge x (broadcastTo S16x12544 q broadcasts_S16x1_S16x12544)) x
    (broadcast S16x12544 (Scalar.ofBits .f32 0x00000000#32)))

/-- The same of the last slice. -/
def keepLast (q : FVec F S16x1 .f32) (x : FVec F S16x12192 .f32) : FVec F S16x1 .f32 :=
  sumLast (select (cmpf .oge x (broadcastTo S16x12192 q broadcasts_S16x1_S16x12192)) x
    (broadcast S16x12192 (Scalar.ofBits .f32 0x00000000#32)))

/-- Each row's value over the whole block from functions of its slices. -/
def slices (f : FVec F S16x1 .f32 → FVec F S16x1 .f32 → FVec F S16x1 .f32)
    (g : FVec F S16x12544 .f32 → FVec F S16x1 .f32) (g' : FVec F S16x12192 .f32 → FVec F S16x1 .f32)
    (p : FVec F S16x100000 .f32) : FVec F S16x1 .f32 :=
  tree f (g (extractStridedSlice S16x12544 ![0, 0] p slices_S16x100000_o0_0_S16x12544))
    (g (extractStridedSlice S16x12544 ![0, 12544] p slices_S16x100000_o0_12544_S16x12544))
    (g (extractStridedSlice S16x12544 ![0, 25088] p slices_S16x100000_o0_25088_S16x12544))
    (g (extractStridedSlice S16x12544 ![0, 37632] p slices_S16x100000_o0_37632_S16x12544))
    (g (extractStridedSlice S16x12544 ![0, 50176] p slices_S16x100000_o0_50176_S16x12544))
    (g (extractStridedSlice S16x12544 ![0, 62720] p slices_S16x100000_o0_62720_S16x12544))
    (g (extractStridedSlice S16x12544 ![0, 75264] p slices_S16x100000_o0_75264_S16x12544))
    (g' (extractStridedSlice S16x12192 ![0, 87808] p slices_S16x100000_o0_87808_S16x12192))

/-- Each row's sum. -/
def total (p : FVec F S16x100000 .f32) : FVec F S16x1 .f32 := slices addf sumWide sumLast p

/-- Each row's mass at or above its threshold. -/
def massAbove (p : FVec F S16x100000 .f32) (q : FVec F S16x1 .f32) : FVec F S16x1 .f32 :=
  slices addf (keepWide q) (keepLast q) p

/-- A constant in every row. -/
def const (w : BitVec 32) : FVec F S16x1 .f32 := broadcast S16x1 (Scalar.ofBits .f32 w)

/-- The search's state per row: the interval's ends and the mass above its upper end. -/
structure VState (F : FTy → Type) where
  lo : FVec F S16x1 .f32
  hi : FVec F S16x1 .f32
  above : FVec F S16x1 .f32

/-- The middle of the interval. -/
def middle (s : VState F) : FVec F S16x1 .f32 := mulf (const 0x3F000000#32) (addf s.lo s.hi)

/-- One halving. -/
def halve (p : FVec F S16x100000 .f32) (target : FVec F S16x1 .f32) (s : VState F) : VState F where
  lo := select (cmpf .ole (massAbove p (exp (middle s))) target) s.lo (middle s)
  hi := select (cmpf .ole (massAbove p (exp (middle s))) target) (middle s) s.hi
  above := select (cmpf .ole (massAbove p (exp (middle s))) target) (massAbove p (exp (middle s))) s.above

/-- The interval `[-16, 1]`, with no mass above it. -/
def start : VState F := ⟨const 0xC1800000#32, const 0x3F800000#32, const 0x00000000#32⟩

/-- The mass that the search compares with: nine tenths of the row's sum. -/
def target (p : FVec F S16x100000 .f32) : FVec F S16x1 .f32 := mulf (const 0x3F666666#32) (total p)

/-- The state after ten halvings. -/
def found (p : FVec F S16x100000 .f32) : VState F := (halve p (target p))^[10] start

/-- The mass that is kept. -/
def keptMass (p : FVec F S16x100000 .f32) : FVec F S16x1 .f32 :=
  select (cmpf .ogt (exp (found p).hi) (const 0x3F800000#32)) (massAbove p (const 0x3F800000#32)) (found p).above

/-- The final threshold. -/
def threshold (p : FVec F S16x100000 .f32) : FVec F S16x1 .f32 := minimumf (exp (found p).hi) (const 0x3F800000#32)

/-- The row weights of two input blocks: the exponentials of the scaled sums less their scaled row maximum. -/
def weights (x0 x1 : FVec F S16x100000 .f32) : FVec F S16x100000 .f32 :=
  exp (subf (k0_pay3 x0 x1) (broadcastTo S16x100000 (k0_pay2 x0 x1) broadcasts_S16x1_S16x100000))

/-- The output block of two input blocks. -/
def out (x0 x1 : FVec F S16x100000 .f32) : FVec F S16x100000 .f32 :=
  k0_pay1 (weights x0 x1) (keptMass (weights x0 x1)) (threshold (weights x0 x1))

theorem hz : (![0, 0] : Fin 2 → Nat) = fun _ => 0 := funext fun a => by fin_cases a <;> rfl

section Run

variable (c : Dev nD) (a1 : Memref sig .tc .vmem S16x100000 .f32) (h1 : a1.IsWhole)
  (a2 : Memref sig .tc .vmem S16x100000 .f32) (h2 : a2.IsWhole) (a3 : Memref sig .tc .vmem S16x100000 .f32)
  (x0 x1 : Vec F S16x100000 .f32)

/-- The weights that the run reads back from its output block are those of its input blocks. -/
theorem run_weights : kernelRun0_A.sl.v46 c a1 h1 a2 h2 a3 x0 x1 = weights x0 x1 := by
  unfold kernelRun0_A.sl.v46 kernelRun0_A.sl.v45 kernelRun0_A.sl.H2_1
  rw [View.readCov_unit_zero (S := S16x100000) _ hz]
  unfold kernelRun0_A.sl.v43 kernelRun0_A.sl.v42 kernelRun0_A.sl.v41 kernelRun0_A.sl.r kernelRun0_A.sl.r_1 weights
  simp only [View.readAt_eq_ld, h1.read_unread, h2.read_unread, View.ld_unit_zero (S := S16x100000) hz, shapeCast_self]

/-- The run's target is nine tenths of the row sums. -/
theorem run_target : kernelRun0_A.sl.v227 c a1 h1 a2 h2 a3 x0 x1 = target (kernelRun0_A.sl.v46 c a1 h1 a2 h2 a3 x0 x1) := rfl

/-- The mass of the weights that are 1. -/
theorem run_ones : kernelRun0_A.sl.v154 c a1 h1 a2 h2 a3 x0 x1
    = massAbove (kernelRun0_A.sl.v46 c a1 h1 a2 h2 a3 x0 x1) (const 0x3F800000#32) := rfl

/-- The run's values after the first nine halvings, each a halving of the one before. -/
theorem run_halvings :
    (⟨kernelRun0_A.sl.v863 c a1 h1 a2 h2 a3 x0 x1, kernelRun0_A.sl.v864 c a1 h1 a2 h2 a3 x0 x1,
      kernelRun0_A.sl.v862 c a1 h1 a2 h2 a3 x0 x1⟩ : VState F)
    = (halve (kernelRun0_A.sl.v46 c a1 h1 a2 h2 a3 x0 x1) (kernelRun0_A.sl.v227 c a1 h1 a2 h2 a3 x0 x1))^[9] start := by
  let s1 : VState F := ⟨kernelRun0_A.sl.v231 c a1 h1 a2 h2 a3 x0 x1, kernelRun0_A.sl.v232 c a1 h1 a2 h2 a3 x0 x1,
    kernelRun0_A.sl.v230 c a1 h1 a2 h2 a3 x0 x1⟩
  let s2 : VState F := ⟨kernelRun0_A.sl.v310 c a1 h1 a2 h2 a3 x0 x1, kernelRun0_A.sl.v311 c a1 h1 a2 h2 a3 x0 x1,
    kernelRun0_A.sl.v309 c a1 h1 a2 h2 a3 x0 x1⟩
  let s3 : VState F := ⟨kernelRun0_A.sl.v389 c a1 h1 a2 h2 a3 x0 x1, kernelRun0_A.sl.v390 c a1 h1 a2 h2 a3 x0 x1,
    kernelRun0_A.sl.v388 c a1 h1 a2 h2 a3 x0 x1⟩
  let s4 : VState F := ⟨kernelRun0_A.sl.v468 c a1 h1 a2 h2 a3 x0 x1, kernelRun0_A.sl.v469 c a1 h1 a2 h2 a3 x0 x1,
    kernelRun0_A.sl.v467 c a1 h1 a2 h2 a3 x0 x1⟩
  let s5 : VState F := ⟨kernelRun0_A.sl.v547 c a1 h1 a2 h2 a3 x0 x1, kernelRun0_A.sl.v548 c a1 h1 a2 h2 a3 x0 x1,
    kernelRun0_A.sl.v546 c a1 h1 a2 h2 a3 x0 x1⟩
  let s6 : VState F := ⟨kernelRun0_A.sl.v626 c a1 h1 a2 h2 a3 x0 x1, kernelRun0_A.sl.v627 c a1 h1 a2 h2 a3 x0 x1,
    kernelRun0_A.sl.v625 c a1 h1 a2 h2 a3 x0 x1⟩
  let s7 : VState F := ⟨kernelRun0_A.sl.v705 c a1 h1 a2 h2 a3 x0 x1, kernelRun0_A.sl.v706 c a1 h1 a2 h2 a3 x0 x1,
    kernelRun0_A.sl.v704 c a1 h1 a2 h2 a3 x0 x1⟩
  let s8 : VState F := ⟨kernelRun0_A.sl.v784 c a1 h1 a2 h2 a3 x0 x1, kernelRun0_A.sl.v785 c a1 h1 a2 h2 a3 x0 x1,
    kernelRun0_A.sl.v783 c a1 h1 a2 h2 a3 x0 x1⟩
  let H := halve (kernelRun0_A.sl.v46 c a1 h1 a2 h2 a3 x0 x1) (kernelRun0_A.sl.v227 c a1 h1 a2 h2 a3 x0 x1)
  have e1 : s1 = H start := rfl
  have e2 : s2 = H s1 := rfl
  have e3 : s3 = H s2 := rfl
  have e4 : s4 = H s3 := rfl
  have e5 : s5 = H s4 := rfl
  have e6 : s6 = H s5 := rfl
  have e7 : s7 = H s6 := rfl
  have e8 : s8 = H s7 := rfl
  refine Eq.trans (b := H s8) rfl ?_
  rw [e8, e7, e6, e5, e4, e3, e2, e1]
  rfl

/-- The mass that the run divides by and its final threshold, by the tenth halving. -/
theorem run_final :
    kernelRun0_A.sl.r_2 c a1 h1 a2 h2 a3 x0 x1 = keptMass (kernelRun0_A.sl.v46 c a1 h1 a2 h2 a3 x0 x1)
    ∧ kernelRun0_A.sl.r_3 c a1 h1 a2 h2 a3 x0 x1 = threshold (kernelRun0_A.sl.v46 c a1 h1 a2 h2 a3 x0 x1) := by
  have h : found (kernelRun0_A.sl.v46 c a1 h1 a2 h2 a3 x0 x1)
      = halve (kernelRun0_A.sl.v46 c a1 h1 a2 h2 a3 x0 x1) (kernelRun0_A.sl.v227 c a1 h1 a2 h2 a3 x0 x1)
        ⟨kernelRun0_A.sl.v863 c a1 h1 a2 h2 a3 x0 x1, kernelRun0_A.sl.v864 c a1 h1 a2 h2 a3 x0 x1,
          kernelRun0_A.sl.v862 c a1 h1 a2 h2 a3 x0 x1⟩ := by
    rw [run_halvings, run_target]
    exact Function.iterate_succ_apply' (halve _ _) 9 start
  unfold keptMass threshold
  rw [h]
  exact ⟨rfl, rfl⟩

end Run

/-- What the run leaves in a point's output block is `out` of its input blocks. -/
theorem out_eq (c : Dev nD) (i : grid0.Coords) (a1 : Memref sig .tc .vmem S16x100000 .f32) (h1 : a1.IsWhole)
    (a2 : Memref sig .tc .vmem S16x100000 .f32) (h2 : a2.IsWhole) (a3 : Memref sig .tc .vmem S16x100000 .f32)
    (h3 : a3.IsWhole) (a4 : Memref sig .tc .vmem S8x128 .f32) (h4 : a4.IsWhole) (x0 x1 : Vec F S16x100000 .f32) :
    out0_A_2 c i a1 h1 a2 h2 a3 h3 a4 h4 x0 x1 = out x0 x1 := by
  unfold out0_A_2
  rw [View.read_writes_junk_eq_canon]
  unfold kernelRun0_A
  dsimp only
  rw [View.canon_cons_unit_zero (S := S16x100000) hz, (run_final c a1 h1 a2 h2 a3 x0 x1).1,
    (run_final c a1 h1 a2 h2 a3 x0 x1).2, run_weights]
  rfl

end Cert.KernelIdeal.Block

end
-- ==== Proof.Bisect.lean ====
/- The mathematics of the threshold search, over the reals: a row of weights `p`, the mass that lies at or above a
   threshold, ten halvings of an interval of logarithms of thresholds, and the theorem that the threshold so found keeps
   exactly the tokens that the sorted cumulative sums keep, where the cut falls into a gap. -/
module

public import Mathlib.Analysis.SpecialFunctions.Exp

@[expose] public section

noncomputable section

namespace Cert.Bisect

variable {n : ℕ}

/-- The sum of the weights that are at least `q`. -/
def mass (p : Fin n → ℝ) (q : ℝ) : ℝ := ∑ i, if q ≤ p i then p i else 0

/-- The state of the search: the interval's ends, and the mass above its upper end. -/
structure State where
  lo : ℝ
  hi : ℝ
  above : ℝ

/-- One halving: the middle becomes the upper end where the mass above it is at most `T`, else the lower end. -/
def halve (p : Fin n → ℝ) (T : ℝ) (s : State) : State :=
  if mass p (Real.exp (1 / 2 * (s.lo + s.hi))) ≤ T then
    ⟨s.lo, 1 / 2 * (s.lo + s.hi), mass p (Real.exp (1 / 2 * (s.lo + s.hi)))⟩
  else ⟨1 / 2 * (s.lo + s.hi), s.hi, s.above⟩

/-- What every state of the search satisfies: the mass passes `T` between the ends, which lie `w` apart. -/
structure Good (p : Fin n → ℝ) (T w : ℝ) (s : State) : Prop where
  upper : mass p (Real.exp s.hi) ≤ T
  lower : T < mass p (Real.exp s.lo)
  above : s.above = mass p (Real.exp s.hi)
  width : s.hi = s.lo + w

/-- A halving keeps the invariant, with half the width. -/
theorem halve_good {p : Fin n → ℝ} {T w : ℝ} {s : State} (h : Good p T w s) : Good p T (w / 2) (halve p T s) := by
  have hw := h.width
  unfold halve
  split
  · next hm => exact ⟨hm, h.lower, rfl, by dsimp only; linarith⟩
  · next hm => exact ⟨h.upper, not_le.mp hm, h.above, by dsimp only; linarith⟩

/-- `k` halvings keep the invariant, with the width divided by `2 ^ k`. -/
theorem iterate_good {p : Fin n → ℝ} {T w : ℝ} {s : State} (h : Good p T w s) (k : ℕ) :
    Good p T (w / 2 ^ k) ((halve p T)^[k] s) := by
  induction k with
  | zero => simpa using h
  | succ k ih =>
    rw [Function.iterate_succ_apply', pow_succ, ← div_div]
    exact halve_good ih

/-- The interval `[-16, 1]` satisfies the invariant for a row of at most 100000 weights in `[0, 1]`, one of which is 1,
    and a target `c` times the row's sum with `c` at most nine tenths. -/
theorem start_good (p : Fin n → ℝ) (hn : n ≤ 100000) (h0 : ∀ i, 0 ≤ p i) (h1 : ∀ i, p i ≤ 1) (hone : ∃ i, p i = 1)
    {c : ℝ} (hc0 : 0 ≤ c) (hc : c ≤ 9 / 10) : Good p (c * ∑ i, p i) 17 ⟨-16, 1, 0⟩ := by
  have hz : 1 ≤ ∑ i, p i := by
    obtain ⟨i, hi⟩ := hone
    rw [← hi]
    exact Finset.single_le_sum (fun j _ => h0 j) (Finset.mem_univ i)
  have hE : (1 : ℝ) < Real.exp 1 := by
    simpa using Real.exp_lt_exp.mpr (zero_lt_one' ℝ)
  have htop : mass p (Real.exp 1) = 0 :=
    Finset.sum_eq_zero fun i _ => if_neg (not_le.mpr (lt_of_le_of_lt (h1 i) hE))
  have h16 : Real.exp (-16) < 1 / 1000001 := by
    rw [Real.exp_neg, ← one_div]
    apply one_div_lt_one_div_of_lt (by norm_num)
    have h : Real.exp 16 = Real.exp (1 / 8) ^ 128 := by rw [← Real.exp_nat_mul]; norm_num
    rw [h]
    calc (1000001 : ℝ) < (9 / 8) ^ 128 := by norm_num
      _ ≤ Real.exp (1 / 8) ^ 128 :=
          pow_le_pow_left₀ (by norm_num) (by have := Real.add_one_le_exp (1 / 8 : ℝ); linarith) 128
  refine ⟨?_, ?_, htop.symm, by norm_num⟩
  · show mass p (Real.exp 1) ≤ _
    rw [htop]; positivity
  · show _ < mass p (Real.exp (-16))
    have hlow : ∑ i, p i - mass p (Real.exp (-16)) ≤ 100000 * Real.exp (-16) := by
      unfold mass
      rw [← Finset.sum_sub_distrib]
      calc ∑ i, (p i - if Real.exp (-16) ≤ p i then p i else 0)
          ≤ ∑ _i : Fin n, Real.exp (-16) := Finset.sum_le_sum fun i _ => by
            split
            · simp [Real.exp_nonneg]
            · next h => have := not_le.mp h; linarith
        _ = n * Real.exp (-16) := by simp
        _ ≤ 100000 * Real.exp (-16) :=
            mul_le_mul_of_nonneg_right (by exact_mod_cast hn) (Real.exp_nonneg _)
    nlinarith

/-- The tokens kept by the threshold `min (exp hi) 1` are those that the sorted cumulative sums keep. `σ` sorts the weights
    descending; `cut k` says that the `k`-th sorted token is not the first and the first `k + 1` weights sum to more than `T`;
    where a kept token is followed by a cut one, the kept weight is at least `exp w` times the other. -/
theorem kept_iff {n : ℕ} (p : Fin (n + 1) → ℝ) (h0 : ∀ i, 0 ≤ p i) (h1 : ∀ i, p i ≤ 1)
    (σ : Equiv.Perm (Fin (n + 1))) (hanti : Antitone (p ∘ σ)) (htop : p (σ 0) = 1) {T w : ℝ} {s : State}
    (hg : Good p T w s) (hw : 0 < w) (hT : T < ∑ i, p i) (hn : 1 ≤ n) (cut : Fin (n + 1) → Prop)
    (hcut : ∀ k, cut k ↔ k ≠ 0 ∧ T < ∑ j, if j ≤ k then p (σ j) else 0)
    (hgap : ∀ k : Fin n, ¬ cut k.castSucc → cut k.succ → Real.exp w * p (σ k.succ) ≤ p (σ k.castSucc))
    (k : Fin (n + 1)) : min (Real.exp s.hi) 1 ≤ p (σ k) ↔ ¬ cut k := by
  have hw1 : 1 < Real.exp w := by simpa using Real.exp_lt_exp.mpr hw
  have hmass : ∀ q, mass p q = ∑ j, if q ≤ p (σ j) then p (σ j) else 0 := fun q =>
    (Equiv.sum_comp σ (fun i => if q ≤ p i then p i else 0)).symm
  have hmono : ∀ {j k : Fin (n + 1)}, j ≤ k → cut j → cut k := by
    intro j k hjk hj
    rw [hcut] at hj ⊢
    refine ⟨fun h => hj.1 (le_antisymm (h ▸ hjk) (Fin.zero_le j)), lt_of_lt_of_le hj.2 ?_⟩
    refine Finset.sum_le_sum fun i _ => ?_
    by_cases hij : i ≤ j
    · rw [if_pos hij, if_pos (hij.trans hjk)]
    · rw [if_neg hij]; split
      · exact h0 _
      · exact le_refl _
  have hlast : cut (Fin.last n) := by
    rw [hcut]
    refine ⟨fun h => ?_, ?_⟩
    · have := congrArg Fin.val h; simp at this; omega
    · have : (∑ j, if j ≤ Fin.last n then p (σ j) else 0) = ∑ i, p i := by
        rw [← Equiv.sum_comp σ p]
        exact Finset.sum_congr rfl fun j _ => if_pos (Fin.le_last j)
      rwa [this]
  have hfirst : ¬ cut 0 := fun h => ((hcut 0).mp h).1 rfl
  -- the last kept position
  obtain ⟨b, hb, hb'⟩ : ∃ b : Fin n, ¬ cut b.castSucc ∧ cut b.succ := by
    by_contra hno
    push Not at hno
    have : ∀ k : Fin (n + 1), ¬ cut k := fun k => by
      induction k using Fin.induction with
      | zero => exact hfirst
      | succ k ih => exact hno k ih
    exact this _ hlast
  have hgapb := hgap b hb hb'
  have hkept : min (Real.exp s.hi) 1 ≤ p (σ b.castSucc) := by
    by_cases hz : b.castSucc = 0
    · rw [hz, htop]; exact min_le_right _ _
    · have hle : (∑ j, if j ≤ b.castSucc then p (σ j) else 0) ≤ T := by
        by_contra h
        exact hb ((hcut _).mpr ⟨hz, not_le.mp h⟩)
      by_contra hlt
      have hlt : p (σ b.castSucc) < Real.exp s.hi := lt_of_lt_of_le (not_le.mp hlt) (min_le_left _ _)
      have hex : ∃ j, b.castSucc < j ∧ Real.exp s.lo ≤ p (σ j) := by
        by_contra hno
        push Not at hno
        have : mass p (Real.exp s.lo) ≤ ∑ j, if j ≤ b.castSucc then p (σ j) else 0 := by
          rw [hmass]
          refine Finset.sum_le_sum fun j _ => ?_
          by_cases hj : j ≤ b.castSucc
          · rw [if_pos hj]; split
            · exact le_refl _
            · exact h0 _
          · rw [if_neg hj, if_neg (not_le.mpr (hno j (not_le.mp hj)))]
        have := hg.lower
        linarith
      obtain ⟨j, hbj, hj⟩ := hex
      have hsj : b.succ ≤ j := Fin.castSucc_lt_iff_succ_le.mp hbj
      have hlo : Real.exp s.lo ≤ p (σ b.succ) := hj.trans (hanti hsj)
      have : Real.exp s.hi = Real.exp w * Real.exp s.lo := by
        rw [hg.width, Real.exp_add, mul_comm]
      nlinarith [Real.exp_pos w]
  have hout : p (σ b.succ) < min (Real.exp s.hi) 1 := by
    refine lt_min ?_ ?_
    · by_contra h
      have h := not_lt.mp h
      have : (∑ j, if j ≤ b.succ then p (σ j) else 0) ≤ mass p (Real.exp s.hi) := by
        rw [hmass]
        refine Finset.sum_le_sum fun j _ => ?_
        by_cases hj : j ≤ b.succ
        · rw [if_pos hj, if_pos (show Real.exp s.hi ≤ p (σ j) from h.trans (hanti hj))]
        · rw [if_neg hj]; split
          · exact h0 _
          · exact le_refl _
      have h1 := ((hcut _).mp hb').2
      have h2 := hg.upper
      linarith
    · have ha := h1 (σ b.castSucc)
      have hb0 := h0 (σ b.succ)
      by_contra h
      nlinarith
  constructor
  · intro h hk
    have : b.succ ≤ k := by
      by_contra hlt
      have : k ≤ b.castSucc := Fin.le_castSucc_iff.mpr (not_le.mp hlt)
      exact hb (hmono this hk)
    have := hanti this
    simp only [Function.comp] at this
    linarith
  · intro h
    have : k ≤ b.castSucc := by
      by_contra hlt
      exact h (hmono (Fin.castSucc_lt_iff_succ_le.mp (not_le.mp hlt)) hb')
    exact hkept.trans (hanti this)

/-- The mass that the final division takes is the mass at or above the final threshold. -/
theorem final_mass {p : Fin n → ℝ} {T w : ℝ} {s : State} (h : Good p T w s) :
    (if 1 < Real.exp s.hi then mass p 1 else s.above) = mass p (min (Real.exp s.hi) 1) := by
  split
  · next h' => rw [min_eq_right h'.le]
  · next h' => rw [min_eq_left (not_lt.mp h'), h.above]

/-- A lower threshold has at least the mass of a higher one. -/
theorem mass_antitone {p : Fin n → ℝ} (h0 : ∀ i, 0 ≤ p i) : Antitone (mass p) := fun q q' h => by
  refine Finset.sum_le_sum fun i _ => ?_
  by_cases hi : q' ≤ p i
  · rw [if_pos hi, if_pos (h.trans hi)]
  · rw [if_neg hi]
    split
    exacts [h0 i, le_rfl]

/-- The ends after `k` halvings of `[-16, 1]` are neighbours among the points that part it in `2 ^ k`. -/
theorem iterate_grid (p : Fin n → ℝ) (T : ℝ) (k : ℕ) : ∃ a : ℕ, a < 2 ^ k ∧
    ((halve p T)^[k] ⟨-16, 1, 0⟩).lo = -16 + 17 / 2 ^ k * a ∧
    ((halve p T)^[k] ⟨-16, 1, 0⟩).hi = -16 + 17 / 2 ^ k * (a + 1 : ℕ) := by
  induction k with
  | zero => exact ⟨0, by norm_num, by norm_num, by norm_num⟩
  | succ k ih =>
    obtain ⟨a, ha, hl, hh⟩ := ih
    rw [Function.iterate_succ_apply']
    generalize (halve p T)^[k] ⟨-16, 1, 0⟩ = s at hl hh ⊢
    have h2 : (2 : ℝ) ^ k ≠ 0 := by positivity
    unfold halve
    split
    · refine ⟨2 * a, by rw [pow_succ]; omega, ?_, ?_⟩
      · rw [hl, pow_succ]; push_cast; field_simp
      · show 1 / 2 * (s.lo + s.hi) = _
        rw [hl, hh, pow_succ]; push_cast; field_simp; ring
    · refine ⟨2 * a + 1, by rw [pow_succ]; omega, ?_, ?_⟩
      · show 1 / 2 * (s.lo + s.hi) = _
        rw [hl, hh, pow_succ]; push_cast; field_simp; ring
      · rw [hh, pow_succ]; push_cast; field_simp; ring

/-- Of evenly spaced levels those from the upper end up have a mass within the target. -/
theorem within_iff {p : Fin n → ℝ} (h0 : ∀ i, 0 ≤ p i) {T W c d : ℝ} (hd : 0 ≤ d) {s : State} (hg : Good p T W s) {a : ℕ}
    (hl : s.lo = c + d * a) (hh : s.hi = c + d * (a + 1 : ℕ)) (k : ℕ) :
    mass p (Real.exp (c + d * k)) ≤ T ↔ a + 1 ≤ k := by
  constructor
  · intro h
    by_contra hk
    have hk : (k : ℝ) ≤ a := by exact_mod_cast Nat.lt_succ_iff.mp (not_le.mp hk)
    have := mass_antitone h0 (Real.exp_le_exp.mpr (show c + d * k ≤ s.lo by rw [hl]; gcongr))
    have := hg.lower
    linarith
  · intro hk
    have hk : ((a + 1 : ℕ) : ℝ) ≤ k := by exact_mod_cast hk
    exact (mass_antitone h0 (Real.exp_le_exp.mpr (show s.hi ≤ c + d * k by rw [hh]; gcongr))).trans hg.upper

end Cert.Bisect

end
-- ==== Proof.Weights.lean ====
/- A row's weights: the exponentials of its logits less their maximum, as real numbers; and sums of reals in the extended
   reals. -/
module

public import Idealize.ShloMosaic.PureOps.Ideal

@[expose] public section

noncomputable section

namespace Cert.Weights

open Idealize.ShloMosaic

/-- A sum of reals, taken in the extended reals. -/
theorem coe_sum {ι : Type} (s : Finset ι) (f : ι → ℝ) : ((∑ i ∈ s, f i : ℝ) : EReal) = ∑ i ∈ s, (f i : EReal) := by
  classical
  induction s using Finset.induction with
  | empty => simp
  | insert a s h ih => rw [Finset.sum_insert h, Finset.sum_insert h, EReal.coe_add, ih]

/-- A case distinction between reals, taken in the extended reals. -/
theorem coe_ite (P : Prop) [Decidable P] (a b : ℝ) : ((if P then a else b : ℝ) : EReal) = if P then (a : EReal) else b := by
  split <;> rfl

/-- The weight of a logit `x` in a row whose greatest logit is `M`. -/
def weight (M : ℝ) (x : EReal) : ℝ := (Ideal.exp (x - M)).toReal

variable {M : ℝ} {x y : EReal}

/-- A logit that is at most `M` is a real number or minus infinity. -/
theorem cases (h : x ≤ M) : x = ⊥ ∨ ∃ r : ℝ, x = r ∧ r ≤ M := by
  induction x with
  | bot => exact .inl rfl
  | top => exact absurd h (by simp)
  | coe r => exact .inr ⟨r, rfl, by exact_mod_cast h⟩

theorem weight_bot : weight M ⊥ = 0 := by simp [weight]

theorem weight_coe (r : ℝ) : weight M r = Real.exp (r - M) := by
  rw [weight, ← EReal.coe_sub, Ideal.exp_coe, EReal.toReal_coe]

/-- The exponential of a logit less the maximum is its weight. -/
theorem exp_eq (h : x ≤ M) : Ideal.exp (x - M) = (weight M x : EReal) := by
  rcases cases h with rfl | ⟨r, rfl, -⟩
  · rw [weight_bot]; simp
  · rw [weight_coe, ← EReal.coe_sub, Ideal.exp_coe]

theorem weight_nonneg (h : x ≤ M) : 0 ≤ weight M x := by
  rcases cases h with rfl | ⟨r, rfl, -⟩
  · rw [weight_bot]
  · rw [weight_coe]; exact Real.exp_nonneg _

theorem weight_le_one (h : x ≤ M) : weight M x ≤ 1 := by
  rcases cases h with rfl | ⟨r, rfl, hr⟩
  · rw [weight_bot]; exact zero_le_one
  · rw [weight_coe]; exact Real.exp_le_one_iff.mpr (by linarith)

theorem weight_top : weight M M = 1 := by rw [weight_coe, sub_self, Real.exp_zero]

/-- A greater logit has a greater weight. -/
theorem weight_mono (h : x ≤ M) (hy : y ≤ x) : weight M y ≤ weight M x := by
  rcases cases h with rfl | ⟨r, rfl, hr⟩
  · rw [le_bot_iff.mp hy]
  · rcases cases (hy.trans h) with rfl | ⟨s, rfl, hs⟩
    · rw [weight_bot, weight_coe]; exact Real.exp_nonneg _
    · rw [weight_coe, weight_coe]
      exact Real.exp_le_exp.mpr (sub_le_sub_right (by exact_mod_cast hy) M)

/-- A logit less the maximum is at least `t` where its weight is at least `exp t`. -/
theorem le_sub_iff (h : x ≤ M) (t : ℝ) : (t : EReal) ≤ x - M ↔ Real.exp t ≤ weight M x := by
  rcases cases h with rfl | ⟨r, rfl, -⟩
  · rw [weight_bot, show (⊥ : EReal) - (M : EReal) = ⊥ from rfl]
    simp [Real.exp_pos]
  · rw [weight_coe, ← EReal.coe_sub, EReal.coe_le_coe_iff, Real.exp_le_exp]

/-- Logits that lie `d` apart have weights whose quotient is at least `exp d`. -/
theorem weight_gap {d : ℝ} (h : x ≤ M) (hy : y ≤ M) (hd : (d : EReal) ≤ x - y) :
    Real.exp d * weight M y ≤ weight M x := by
  rcases cases hy with rfl | ⟨s, rfl, hs⟩
  · rw [weight_bot, mul_zero]; exact weight_nonneg h
  · rcases cases h with rfl | ⟨r, rfl, hr⟩
    · rw [show (⊥ : EReal) - (s : EReal) = ⊥ from rfl] at hd
      exact absurd hd (by simp)
    · rw [← EReal.coe_sub, EReal.coe_le_coe_iff] at hd
      rw [weight_coe, weight_coe, ← Real.exp_add]
      exact Real.exp_le_exp.mpr (by linarith)

end Cert.Weights

end
-- ==== Proof.Consts.lean ====
/- The float constants that the programs and the precondition spell, as the extended reals that their patterns denote. -/
module

public import Idealize.ShloMosaic.PureOps.Ideal

@[expose] public section

noncomputable section

namespace Cert.Consts

open Idealize.ShloMosaic

/-- The pattern of one half. -/
theorem half : Ideal.ofBits .f32 0x3F000000#32 = ((1 / 2 : ℝ) : EReal) := by
  simp [Ideal.ofBits, Ideal.ieee, -EReal.coe_mul]; norm_num

/-- The pattern of minus sixteen. -/
theorem minus16 : Ideal.ofBits .f32 0xC1800000#32 = ((-16 : ℝ) : EReal) := by
  simp [Ideal.ofBits, Ideal.ieee, -EReal.coe_mul]; norm_num

/-- The pattern nearest nine tenths. -/
theorem topP : Ideal.ofBits .f32 0x3F666666#32 = ((15099494 / 16777216 : ℝ) : EReal) := by
  simp [Ideal.ofBits, Ideal.ieee, -EReal.coe_mul]; norm_num

/-- The pattern nearest seven tenths. -/
theorem temperature : Ideal.ofBits .f32 0x3F333333#32 = ((11744051 / 16777216 : ℝ) : EReal) := by
  simp [Ideal.ofBits, Ideal.ieee, -EReal.coe_mul]; norm_num

/-- The pattern of seventeen 1024ths. -/
theorem resolution : Ideal.ofBits .f32 0x3C880000#32 = ((17 / 1024 : ℝ) : EReal) := by
  simp [Ideal.ofBits, Ideal.ieee, -EReal.coe_mul]; norm_num

/-- The pattern of minus infinity. -/
theorem negInf : Ideal.ofBits .f32 0xFF800000#32 = ⊥ := by simp [Ideal.ofBits, Ideal.ieee]

/-- The pattern of infinity. -/
theorem posInf : Ideal.ofBits .f32 0x7F800000#32 = ⊤ := by simp [Ideal.ofBits, Ideal.ieee]

/-- The pattern of a NaN denotes the junk value. -/
theorem nan : Ideal.ofBits .f32 0x7FC00000#32 = ⊥ := by simp [Ideal.ofBits, Ideal.ieee]

end Cert.Consts

end
-- ==== Proof.BlockRow.lean ====
/- The kernel's output block read at a row, over the extended reals: the sums over eight slices are the row's sums, the
   search is the search over the reals, and each element is its weight, where it is kept, over the mass kept. -/
module

public import proofs.«01_k».proof.Proof.Block
public import proofs.«01_k».proof.Proof.Bisect
public import proofs.«01_k».proof.Proof.Weights
public import proofs.«01_k».proof.Proof.Consts
public import Idealize.ShloMosaic.Lib.Pointwise

@[expose] public section

set_option maxRecDepth 16384

noncomputable section

namespace Cert.KernelIdeal.Block

open Cert.KernelIdeal Cert.KernelIdeal.Gen Cert.Weights Idealize.ShloMosaic

/-- The sums over the eight slices add up to the sum over the row. -/
theorem sum_slices {M : Type} [AddCommMonoid M] (f : Fin 100000 → M) :
    tree (· + ·) (∑ x : Fin 12544, f ⟨x, by omega⟩) (∑ x : Fin 12544, f ⟨12544 + x, by omega⟩)
      (∑ x : Fin 12544, f ⟨25088 + x, by omega⟩) (∑ x : Fin 12544, f ⟨37632 + x, by omega⟩)
      (∑ x : Fin 12544, f ⟨50176 + x, by omega⟩) (∑ x : Fin 12544, f ⟨62720 + x, by omega⟩)
      (∑ x : Fin 12544, f ⟨75264 + x, by omega⟩) (∑ x : Fin 12192, f ⟨87808 + x, by omega⟩) = ∑ i, f i := by
  let g : ℕ → M := fun i => if h : i < 100000 then f ⟨i, h⟩ else 0
  have hg : ∀ (i : ℕ) (h : i < 100000), f ⟨i, h⟩ = g i := fun i h => by simp only [g, dif_pos h]
  have e : ∀ (a n : ℕ) (h : a + n ≤ 100000),
      (∑ x : Fin n, f ⟨a + x, by omega⟩) = ∑ i ∈ Finset.range n, g (a + i) := fun a n h => by
    rw [← Fin.sum_univ_eq_sum_range (fun i => g (a + i))]
    exact Finset.sum_congr rfl fun x _ => hg _ _
  have e0 : (∑ x : Fin 12544, f ⟨x, by omega⟩) = ∑ i ∈ Finset.range 12544, g i := by
    rw [← Fin.sum_univ_eq_sum_range g]
    exact Finset.sum_congr rfl fun x _ => hg _ _
  have eN : (∑ i, f i) = ∑ i ∈ Finset.range 100000, g i := by
    rw [← Fin.sum_univ_eq_sum_range g]
    exact Finset.sum_congr rfl fun x _ => hg _ _
  rw [e0, eN, e 12544 _ (by norm_num), e 25088 _ (by norm_num), e 37632 _ (by norm_num), e 50176 _ (by norm_num),
    e 62720 _ (by norm_num), e 75264 _ (by norm_num), e 87808 _ (by norm_num),
    show 100000 = 87808 + 12192 from rfl, Finset.sum_range_add, show 87808 = 75264 + 12544 from rfl,
    Finset.sum_range_add, show 75264 = 62720 + 12544 from rfl, Finset.sum_range_add,
    show 62720 = 50176 + 12544 from rfl, Finset.sum_range_add, show 50176 = 37632 + 12544 from rfl,
    Finset.sum_range_add, show 37632 = 25088 + 12544 from rfl, Finset.sum_range_add,
    show 25088 = 12544 + 12544 from rfl, Finset.sum_range_add]
  simp only [tree, add_assoc]

/-- What holds on each of the eight slices holds on the row. -/
theorem forall_slices {P : Fin 100000 → Prop} (h0 : ∀ x : Fin 12544, P ⟨x, by omega⟩)
    (h1 : ∀ x : Fin 12544, P ⟨12544 + x, by omega⟩) (h2 : ∀ x : Fin 12544, P ⟨25088 + x, by omega⟩)
    (h3 : ∀ x : Fin 12544, P ⟨37632 + x, by omega⟩) (h4 : ∀ x : Fin 12544, P ⟨50176 + x, by omega⟩)
    (h5 : ∀ x : Fin 12544, P ⟨62720 + x, by omega⟩) (h6 : ∀ x : Fin 12544, P ⟨75264 + x, by omega⟩)
    (h7 : ∀ x : Fin 12192, P ⟨87808 + x, by omega⟩) (i : Fin 100000) : P i := by
  have key : ∀ (a n : ℕ) (hn : a + n ≤ 100000), (∀ x : Fin n, P ⟨a + x, by omega⟩) → a ≤ i.val → i.val < a + n → P i :=
    fun a n hn h ha hi => by
      have := h ⟨i.val - a, by omega⟩
      have e : (⟨a + (i.val - a), by omega⟩ : Fin 100000) = i := Fin.ext (by simp only; omega)
      rwa [e] at this
  have hi := i.isLt
  rcases Nat.lt_or_ge i.val 12544 with h | h
  · exact h0 ⟨i.val, h⟩
  rcases Nat.lt_or_ge i.val 25088 with h' | h
  · exact key _ _ (by norm_num) h1 h h'
  rcases Nat.lt_or_ge i.val 37632 with h' | h
  · exact key _ _ (by norm_num) h2 h h'
  rcases Nat.lt_or_ge i.val 50176 with h' | h
  · exact key _ _ (by norm_num) h3 h h'
  rcases Nat.lt_or_ge i.val 62720 with h' | h
  · exact key _ _ (by norm_num) h4 h h'
  rcases Nat.lt_or_ge i.val 75264 with h' | h
  · exact key _ _ (by norm_num) h5 h h'
  rcases Nat.lt_or_ge i.val 87808 with h' | h
  · exact key _ _ (by norm_num) h6 h h'
  · exact key _ _ (by norm_num) h7 h hi

/-- The maxima of the eight slices give the row's greatest element. -/
theorem max_slices (f : Fin 100000 → EReal) (i : Fin 100000) (hi : ∀ j, f j ≤ f i) :
    tree max (Finset.univ.fold max ⊥ fun x : Fin 12544 => f ⟨x, by omega⟩)
      (Finset.univ.fold max ⊥ fun x : Fin 12544 => f ⟨12544 + x, by omega⟩)
      (Finset.univ.fold max ⊥ fun x : Fin 12544 => f ⟨25088 + x, by omega⟩)
      (Finset.univ.fold max ⊥ fun x : Fin 12544 => f ⟨37632 + x, by omega⟩)
      (Finset.univ.fold max ⊥ fun x : Fin 12544 => f ⟨50176 + x, by omega⟩)
      (Finset.univ.fold max ⊥ fun x : Fin 12544 => f ⟨62720 + x, by omega⟩)
      (Finset.univ.fold max ⊥ fun x : Fin 12544 => f ⟨75264 + x, by omega⟩)
      (Finset.univ.fold max ⊥ fun x : Fin 12192 => f ⟨87808 + x, by omega⟩) = f i := by
  have hle : ∀ (n : ℕ) (g : Fin n → EReal) (b : EReal), Finset.univ.fold max ⊥ g ≤ b ↔ ∀ x, g x ≤ b := fun n g b => by
    rw [Finset.fold_max_le]; simp
  refine le_antisymm ?_ ?_
  · simp only [tree, max_le_iff, hle]
    exact ⟨⟨⟨fun _ => hi _, fun _ => hi _⟩, fun _ => hi _, fun _ => hi _⟩,
      ⟨fun _ => hi _, fun _ => hi _⟩, fun _ => hi _, fun _ => hi _⟩
  · refine le_of_forall_ge fun b hb => ?_
    simp only [tree, max_le_iff, hle] at hb
    obtain ⟨⟨⟨h0, h1⟩, h2, h3⟩, ⟨h4, h5⟩, h6, h7⟩ := hb
    exact forall_slices (P := fun j => f j ≤ b) h0 h1 h2 h3 h4 h5 h6 h7 i

/-- The scaled logit of two addends: their sum over the temperature. -/
def scaled (a b : EReal) : EReal := (a + b) * ((16777216 / 11744051 : ℝ) : EReal)

/-- Sums are in the order of their scaled values. -/
theorem le_of_scaled {a b a' b' : EReal} (h : scaled a b ≤ scaled a' b') : a + b ≤ a' + b' := by
  have e : ∀ x : EReal, x * ((16777216 / 11744051 : ℝ) : EReal) * ((11744051 / 16777216 : ℝ) : EReal) = x := fun x => by
    rw [mul_assoc, ← EReal.coe_mul, show (16777216 / 11744051 * (11744051 / 16777216) : ℝ) = 1 by norm_num, EReal.coe_one,
      mul_one]
  rw [← e (a + b), ← e (a' + b')]
  exact mul_le_mul_of_nonneg_right h (by exact_mod_cast (by norm_num : (0 : ℝ) ≤ 11744051 / 16777216))

/-- The kernel's constant is the exact reciprocal of the reference's temperature. -/
theorem inv_t : Named.named (F := Ideal) Cert.KernelIdeal.κ "inv_t" (φ := .f32) 0x3FB6DB6E#32
    = ((16777216 / 11744051 : ℝ) : EReal) :=
  IdealRules.named_const.ideal_named_scalar _ _ _ _ rfl

/-- The row's weights, where its greatest scaled logit is the real number `M`. -/
theorem weights_row (x0 x1 : FVec Ideal S16x100000 .f32) (r : Fin 16) {M : ℝ}
    (hM : ∀ j, scaled (x0 (ix2 r j)) (x1 (ix2 r j)) ≤ M) (hi : ∃ i, scaled (x0 (ix2 r i)) (x1 (ix2 r i)) = M)
    (j : Fin 100000) :
    weights x0 x1 (ix2 r j) = (weight M (scaled (x0 (ix2 r j)) (x1 (ix2 r j))) : EReal) := by
  obtain ⟨i, hi⟩ := hi
  have hmax : ∀ j, x0 (ix2 r j) + x1 (ix2 r j) ≤ x0 (ix2 r i) + x1 (ix2 r i) := fun j =>
    le_of_scaled ((hM j).trans_eq hi.symm)
  rw [← exp_eq (hM j), ← hi]
  have hs := max_slices (fun j => x0 (ix2 r j) + x1 (ix2 r j)) i hmax
  pointwise [weights, k0_pay2, k0_pay3]
  rw [Cert.Consts.negInf, inv_t]
  simp only [tree] at hs
  rw [hs]
  rfl

variable {p : FVec Ideal S16x100000 .f32} {r : Fin 16} {w : Fin 100000 → ℝ}

/-- The row's sum. -/
theorem total_row (hp : ∀ j, p (ix2 r j) = (w j : EReal)) : total p (ix2 r 0) = ((∑ j, w j : ℝ) : EReal) := by
  have hs := sum_slices fun j => p (ix2 r j)
  pointwise [total, slices, tree, sumWide, sumLast]
  simp only [tree] at hs
  rw [hs, coe_sum]
  exact Finset.sum_congr rfl fun j _ => hp j

/-- The row's mass at or above a threshold. -/
theorem massAbove_row (hp : ∀ j, p (ix2 r j) = (w j : EReal)) {q : FVec Ideal S16x1 .f32} {t : ℝ}
    (hq : q (ix2 r 0) = (t : EReal)) : massAbove p q (ix2 r 0) = ((Bisect.mass w t : ℝ) : EReal) := by
  have hs := sum_slices fun j => if q (ix2 r 0) ≤ p (ix2 r j) then p (ix2 r j) else 0
  pointwise [massAbove, slices, tree, keepWide, keepLast, sumWide, sumLast]
  simp only [tree] at hs
  rw [hs, Bisect.mass, coe_sum]
  refine Finset.sum_congr rfl fun j _ => ?_
  rw [hp, hq, coe_ite, EReal.coe_zero]
  simp only [EReal.coe_le_coe_iff]

/-- A state of the search at a row is a state over the reals. -/
structure Row (r : Fin 16) (s : VState Ideal) (S : Bisect.State) : Prop where
  lo : s.lo (ix2 r 0) = (S.lo : EReal)
  hi : s.hi (ix2 r 0) = (S.hi : EReal)
  above : s.above (ix2 r 0) = (S.above : EReal)

theorem start_row : Row r start ⟨-16, 1, 0⟩ where
  lo := Cert.Consts.minus16
  hi := Ideal.ofBits_one_f32.trans EReal.coe_one.symm
  above := Ideal.ofBits_zero_f32.trans EReal.coe_zero.symm

theorem middle_row {s : VState Ideal} {S : Bisect.State} (h : Row r s S) :
    middle s (ix2 r 0) = ((1 / 2 * (S.lo + S.hi) : ℝ) : EReal) := by
  show Ideal.ofBits .f32 0x3F000000#32 * (s.lo (ix2 r 0) + s.hi (ix2 r 0)) = _
  rw [h.lo, h.hi, Cert.Consts.half, EReal.coe_mul, EReal.coe_add]

/-- A halving at a row is the halving over the reals. -/
theorem halve_row (hp : ∀ j, p (ix2 r j) = (w j : EReal)) {tg : FVec Ideal S16x1 .f32} {T : ℝ}
    (ht : tg (ix2 r 0) = (T : EReal)) {s : VState Ideal} {S : Bisect.State} (h : Row r s S) :
    Row r (halve p tg s) (Bisect.halve w T S) := by
  have hm := middle_row h
  have he : exp (middle s) (ix2 r 0) = ((Real.exp (1 / 2 * (S.lo + S.hi)) : ℝ) : EReal) := by
    show Ideal.exp (middle s (ix2 r 0)) = _
    rw [hm, Ideal.exp_coe]
  have hmass := massAbove_row hp he
  have sel : ∀ (a b : FVec Ideal S16x1 .f32),
      select (cmpf .ole (massAbove p (exp (middle s))) tg) a b (ix2 r 0)
        = if Bisect.mass w (Real.exp (1 / 2 * (S.lo + S.hi))) ≤ T then a (ix2 r 0) else b (ix2 r 0) := fun a b => by
    pointwise
    rw [hmass, ht]
    simp only [EReal.coe_le_coe_iff]
  unfold Bisect.halve
  by_cases hc : Bisect.mass w (Real.exp (1 / 2 * (S.lo + S.hi))) ≤ T
  · rw [if_pos hc]
    refine ⟨?_, ?_, ?_⟩ <;> refine (sel _ _).trans ?_ <;> rw [if_pos hc]
    · exact h.lo
    · exact hm
    · dsimp only
      rw [← hmass]
  · rw [if_neg hc]
    refine ⟨?_, ?_, ?_⟩ <;> refine (sel _ _).trans ?_ <;> rw [if_neg hc]
    exacts [hm, h.hi, h.above]

/-- The fraction of the row's sum that the search compares with. -/
def frac : ℝ := 15099494 / 16777216

theorem target_row (hp : ∀ j, p (ix2 r j) = (w j : EReal)) :
    target p (ix2 r 0) = ((frac * ∑ j, w j : ℝ) : EReal) := by
  show Ideal.ofBits .f32 0x3F666666#32 * total p (ix2 r 0) = _
  rw [total_row hp, Cert.Consts.topP, EReal.coe_mul]; rfl

/-- The state over the reals that the search finds. -/
def Found (w : Fin 100000 → ℝ) : Bisect.State := (Bisect.halve w (frac * ∑ j, w j))^[10] ⟨-16, 1, 0⟩

theorem found_row (hp : ∀ j, p (ix2 r j) = (w j : EReal)) : Row r (found p) (Found w) := by
  have h : ∀ k : ℕ, Row r ((halve p (target p))^[k] start) ((Bisect.halve w (frac * ∑ j, w j))^[k] ⟨-16, 1, 0⟩) := by
    intro k
    induction k with
    | zero => exact start_row
    | succ k ih =>
      rw [Function.iterate_succ_apply', Function.iterate_succ_apply']
      exact halve_row hp (target_row hp) ih
  exact h 10

/-- The threshold over the reals. -/
def Threshold (w : Fin 100000 → ℝ) : ℝ := min (Real.exp (Found w).hi) 1

/-- The output at a row: each weight that is at least the threshold, over the mass kept. -/
theorem finish_row (hp : ∀ j, p (ix2 r j) = (w j : EReal)) {T W : ℝ} (hg : Bisect.Good w T W (Found w))
    (hne : Bisect.mass w (Threshold w) ≠ 0) (j : Fin 100000) :
    k0_pay1 p (keptMass p) (threshold p) (ix2 r j)
      = (((if Threshold w ≤ w j then w j else 0) * (1 / Bisect.mass w (Threshold w)) : ℝ) : EReal) := by
  have hf := found_row hp
  have he : Ideal.exp ((found p).hi (ix2 r 0)) = ((Real.exp (Found w).hi : ℝ) : EReal) := by rw [hf.hi, Ideal.exp_coe]
  have h1 : (const 0x3F800000#32 : FVec Ideal S16x1 .f32) (ix2 r 0) = ((1 : ℝ) : EReal) :=
    Ideal.ofBits_one_f32.trans EReal.coe_one.symm
  have hth : threshold p (ix2 r 0) = (Threshold w : EReal) := by
    show min (Ideal.exp ((found p).hi (ix2 r 0))) ((const 0x3F800000#32 : FVec Ideal S16x1 .f32) (ix2 r 0)) = _
    rw [he, h1, Threshold]
    exact (EReal.coe_strictMono.monotone.map_min).symm
  have hk : keptMass p (ix2 r 0) = ((Bisect.mass w (Threshold w) : ℝ) : EReal) := by
    rw [Threshold, ← Bisect.final_mass hg]
    have hm := massAbove_row hp h1
    unfold keptMass
    generalize massAbove p (const 0x3F800000#32) = m1 at hm ⊢
    have hc : (const 0x3F800000#32 : FVec Ideal S16x1 .f32) (ix2 r 0) = 1 := Ideal.ofBits_one_f32
    generalize (const 0x3F800000#32 : FVec Ideal S16x1 .f32) = one at hc ⊢
    pointwise
    rw [he, hm, hf.above, hc, coe_ite, ← EReal.coe_one]
    simp only [EReal.coe_lt_coe_iff]
  pointwise [k0_pay1]
  rw [hth, hk, hp, Ideal.div_coe hne, one_mul, EReal.coe_mul, coe_ite, EReal.coe_zero]
  simp only [EReal.coe_le_coe_iff]

end Cert.KernelIdeal.Block

end
-- ==== Proof.Reference.lean ====
/- The reference and the precondition as compositions of the same few functions: the scaled logits, the order that sorts
   each row from its greatest logit down, the sorted logits, a softmax along the rows, the marks of the removed places in
   sorted order, and those marks put back in the row's own order. -/
module

public import proofs.«01_k».proof.Proof.Gen.ReferenceIdeal.Run
public import proofs.«01_k».proof.Proof.Gen.Pre_separated
public import Idealize.ShloMosaic.PureOps.Ideal

@[expose] public section

set_option maxRecDepth 16384

noncomputable section

namespace Cert.Nucleus

open Cert.ReferenceIdeal Cert.ReferenceIdeal.Gen Idealize.ShloMosaic Idealize.ShloMosaic.TcCoe Idealize.SL.Sem

/-- An array of 128 rows of extended reals. -/
abbrev Rows := FVec Ideal S128x100000 .f32

/-- The scaled logits. -/
def logits (a b : Rows) : Rows :=
  Host.divf (addf a (mulf (broadcastInDim S128x100000 ![] bcast_S_S128x100000 (constant S_ .f32 0x3F800000#32)) b))
    (broadcastInDim S128x100000 ![] bcast_S_S128x100000 (constant S_ .f32 0x3F333333#32))

/-- The places of each row, from its greatest logit down. -/
def order (x : Rows) : IVec S128x100000 32 :=
  Host.reverse [1] (Host.sort2 S128x100000 1 (comparator_f32_i32_d1 (F := Ideal)) x (iotaInDim S128x100000 32 1)).2

/-- Places with the negative ones counted from the row's end. -/
def wrapped (i : IVec S128x100000 32) : IVec S128x100000 32 :=
  select (cmpi .slt i (broadcastInDim S128x100000 ![] bcast_S_S128x100000 (constantI S_ 32 0#32)))
    (addi i (broadcastInDim S128x100000 ![] bcast_S_S128x100000 (constantI S_ 32 100000#32))) i

/-- Which places lie in the row. -/
def inRow (i : IVec S128x100000x1 32) : IVec S128x100000x1 1 :=
  andi (cmpi .sge i (broadcastInDim S128x100000x1 ![] bcast_S_S128x100000x1 (constantI S_ 32 0#32)))
    (cmpi .sle i (broadcastInDim S128x100000x1 ![0, 1, 2] bcast_S1x1x1_S128x100000x1_0_1_2
      (broadcastInDim S1x1x1 ![2] bcast_S1_S1x1x1_2 (constantI S1 32 99999#32))))

/-- Each row's elements at the given places. -/
def take (x : Rows) (i : IVec S128x100000 32) : Rows :=
  select
    (Host.reduce IntOp.andi (inRow (shapeCast S128x100000x1 (wrapped i) shapeCasts_S128x100000_S128x100000x1))
      (constantI S_ 1 1#1) reducesTo_S128x100000x1_S128x100000_d2 h_S_)
    (Host.gather gather_S128x100000_S128x100000x1_S128x100000_n_1_0_0_1_2_11 x
      (shapeCast S128x100000x1 (wrapped i) shapeCasts_S128x100000_S128x100000x1))
    (broadcastInDim S128x100000 ![] bcast_S_S128x100000 (constant S_ .f32 0x7FC00000#32))

/-- A value of each row at all the row's places. -/
def spread (v : FVec Ideal S128 .f32) : Rows :=
  broadcastInDim S128x100000 ![0, 1] bcast_S128x1_S128x100000_0_1 (broadcastInDim S128x1 ![0] bcast_S128_S128x1_0 v)

/-- The exponentials of each row's elements less their maximum. -/
def exps (x : Rows) : Rows :=
  Host.exp (subf x (spread (maximumf (broadcastInDim S128 ![] bcast_S_S128 (constant S_ .f32 0xFF800000#32))
    (Host.reduce FloatOps.maximumf x (constant S_ .f32 0xFF800000#32) reducesTo_S128x100000_S128_d1 h_S_))))

/-- The softmax of each row. -/
def softmax (x : Rows) : Rows :=
  Host.divf (exps x)
    (spread (Host.reduceAdd (exps x) (constant S_ .f32 0x00000000#32) reducesTo_S128x100000_S128_d1 h_S_))

/-- The running sums along each row. -/
def cumsum (x : Rows) : Rows :=
  Host.reduceWindowAdd ![1, 100000] ![1, 1] ![0, 99999] ![0, 0] x
    (broadcastInDim S_ ![] bcast_S_S_ (constant S_ .f32 0x00000000#32))
    reduceWindows_S128x100000_S128x100000_w1s1p0_0_w100000s1p99999_0 h_S_

/-- The marks of the removed places of sorted rows: where the running sum of the softmax exceeds nine tenths, the first
    place excepted. -/
def removed (s : Rows) : IVec S128x100000 1 :=
  Host.scatter scatter_S128x100000_S1_S128x1_01_n_1_0 (fun _ b => b)
    (cmpf .ogt (cumsum (softmax s)) (broadcastInDim S128x100000 ![] bcast_S_S128x100000 (constant S_ .f32 0x3F666666#32)))
    (broadcastInDim S1 ![] bcast_S_S1 (constantI S_ 32 0#32))
    (broadcastInDim S128x1 ![] bcast_S_S128x1 (constantI S_ 1 0#1))

/-- Each row's own number, the negative ones counted from the end. -/
def rowWord : IVec S128x1 32 :=
  select
    (cmpi .slt (broadcastInDim S128x1 ![0] bcast_S128_S128x1_0 (iotaInDim S128 32 0))
      (broadcastInDim S128x1 ![] bcast_S_S128x1 (constantI S_ 32 0#32)))
    (addi (broadcastInDim S128x1 ![0] bcast_S128_S128x1_0 (iotaInDim S128 32 0))
      (broadcastInDim S128x1 ![] bcast_S_S128x1 (constantI S_ 32 128#32)))
    (broadcastInDim S128x1 ![0] bcast_S128_S128x1_0 (iotaInDim S128 32 0))

/-- The pairs of a row and a place. -/
def pairs (i : IVec S128x100000 32) : IVec S128x100000x2 32 :=
  concatenate S128x100000x2 2
    [⟨S128x100000x1, broadcastInDim S128x100000x1 ![0, 1] bcast_S128x100000_S128x100000x1_0_1
        (broadcastInDim S128x100000 ![0, 1] bcast_S128x1_S128x100000_0_1 rowWord)⟩,
      ⟨S128x100000x1, broadcastInDim S128x100000x1 ![0, 1] bcast_S128x100000_S128x100000x1_0_1 (wrapped i)⟩]
    concatenates_S128x100000x1_S128x100000x1_S128x100000x2_d2

/-- The marks, each put at its place in the row's own order. -/
def putBack (i : IVec S128x100000 32) (u : IVec S128x100000 1) : IVec S128x100000 1 :=
  Host.scatter scatter_S128x100000_S128x100000x2_S128x100000_n_01_01_2 (fun _ b => b)
    (broadcastInDim S128x100000 ![] bcast_S_S128x100000 (constantI S_ 1 0#1)) (pairs i) u

/-- The logits with minus infinity where they are marked. -/
def filtered (x : Rows) (u : IVec S128x100000 1) : Rows :=
  select u (broadcastInDim S128x100000 ![] bcast_S_S128x100000 (constant S_ .f32 0xFF800000#32)) x

/-- The reference on scaled logits. -/
def result (x : Rows) : Rows :=
  softmax (filtered x (putBack (order x) (removed (take x (order x)))))

set_option maxHeartbeats 4000000 in
/-- The reference's result is `result` of the scaled logits. -/
theorem res_eq (m : (ℓ : Loc nD τ sig) → Buf (Elt Ideal) ℓ) (c : Dev nD) :
    Cert.ReferenceIdeal.Value.res_main_v54 m c
      = result (logits (m ((c.tc : Thread nD τ).loc main_arg0)) (m ((c.tc : Thread nD τ).loc main_arg1))) := by
  unfold Cert.ReferenceIdeal.Value.res_main_v54
  rfl

/-- The precondition's finding on the first column: every row's greatest logit is finite. -/
def finite (s : Rows) : IVec S128x1 1 :=
  cmpf .olt (Host.absf (extractStridedSlice S128x1 ![0, 0] s Cert.Pre_separated.Gen.slices_S128x100000_S128x1_0_0))
    (broadcastInDim S128x1 ![] bcast_S_S128x1 (constant S_ .f32 0x7F800000#32))

/-- The precondition's finding on each pair of neighbours in sorted order: both are kept, or both removed, or their logits
    lie the resolution apart. -/
def gaps (s : Rows) : IVec Cert.Pre_separated.S128x99999 1 :=
  ori
    (ori (extractStridedSlice Cert.Pre_separated.S128x99999 ![0, 0] (removed s)
        Cert.Pre_separated.Gen.slices_S128x100000_S128x99999_0_0)
      (noti (extractStridedSlice Cert.Pre_separated.S128x99999 ![0, 1] (removed s)
        Cert.Pre_separated.Gen.slices_S128x100000_S128x99999_0_1)))
    (cmpf .oge
      (subf (extractStridedSlice Cert.Pre_separated.S128x99999 ![0, 0] s
          Cert.Pre_separated.Gen.slices_S128x100000_S128x99999_0_0)
        (extractStridedSlice Cert.Pre_separated.S128x99999 ![0, 1] s
          Cert.Pre_separated.Gen.slices_S128x100000_S128x99999_0_1))
      (broadcastInDim Cert.Pre_separated.S128x99999 ![] Cert.Pre_separated.Gen.bcast_S_S128x99999
        (constant S_ .f32 0x3C880000#32)))

set_option maxHeartbeats 4000000 in
/-- The precondition: all of both findings. -/
theorem pre_eq (a b : Rows) :
    Cert.Pre_separated.fn (F := Ideal) a b
      = andi
        (Host.reduce IntOp.andi (finite (take (logits a b) (order (logits a b)))) (constantI S_ 1 1#1)
          Cert.Pre_separated.Gen.reducesTo_S128x1_S_d0_1 Cert.Pre_separated.Gen.h_S_)
        (Host.reduce IntOp.andi (gaps (take (logits a b) (order (logits a b)))) (constantI S_ 1 1#1)
          Cert.Pre_separated.Gen.reducesTo_S128x99999_S_d0_1 Cert.Pre_separated.Gen.h_S_) := by
  unfold Cert.Pre_separated.fn Cert.Pre_separated.fn_part1 Cert.Pre_separated.fn_part2
  rfl

end Cert.Nucleus

end
-- ==== Proof.RefOps.lean ====
/- The reference's array operations read at an index, for any extents: a row's maximum and sum, running sums, the sort of a
   row's places, a take along the rows, a scatter into the first column and a scatter of single elements. -/
module

public import Idealize.ShloMosaic.PureOps.Ideal
public import Idealize.ShloMosaic.Lib.Pointwise
public import Idealize.ShloMosaic.Lib.Pointwise.IndexBridge
public import Idealize.ShloMosaic.Lib.SortFacts
public import Idealize.ShloMosaic.Lib.ReduceAll
public import Idealize.ShloMosaic.Lib.WordCmp
public import Idealize.ShloMosaic.Lib.Routing.OpsPair
public import Idealize.ShloMosaic.Lib.Routing.OpsSet

@[expose] public section

noncomputable section

namespace Cert.RefOps

open Idealize.ShloMosaic

/-- An array of `R` rows of `N` elements. -/
abbrev Mat (R N : ℕ) : Shape := ⟨2, ![R, N]⟩

variable {R N : ℕ}

/-- A reduction by maximum along the rows. -/
theorem reduceMax_row (x : FVec Ideal (Mat R N) .f32) (v : FVec Ideal ⟨0, ![]⟩ .f32)
    (h : (Mat R N).ReducesTo [1] ⟨1, ![R]⟩) (hu : 0 < (⟨0, ![]⟩ : Shape).numel) (r : Fin R) :
    Host.reduce FloatOps.maximumf x v h hu (ix1 r) = Finset.univ.fold max (v (Shape.Idx.first hu)) fun j => x (ix2 r j) := by
  pointwise

/-- A reduction by addition along the rows. -/
theorem reduceAdd_row (x : FVec Ideal (Mat R N) .f32) (v : FVec Ideal ⟨0, ![]⟩ .f32)
    (h : (Mat R N).ReducesTo [1] ⟨1, ![R]⟩) (hu : 0 < (⟨0, ![]⟩ : Shape).numel) (r : Fin R) :
    Host.reduceAdd x v h hu (ix1 r) = v (Shape.Idx.first hu) + ∑ j, x (ix2 r j) := by
  pointwise

/-- A reduction by minimum along the rows. -/
theorem reduceMin_row (x : FVec Ideal (Mat R N) .f32) (v : FVec Ideal ⟨0, ![]⟩ .f32)
    (h : (Mat R N).ReducesTo [1] ⟨1, ![R]⟩) (hu : 0 < (⟨0, ![]⟩ : Shape).numel) (r : Fin R) :
    Host.reduce FloatOps.minimumf x v h hu (ix1 r) = Finset.univ.fold min (v (Shape.Idx.first hu)) fun j => x (ix2 r j) := by
  pointwise

/-- A reduction by addition along the last axis of three. -/
theorem reduceAdd_table {K : ℕ} (x : FVec Ideal ⟨3, ![R, K, N]⟩ .f32) (v : FVec Ideal ⟨0, ![]⟩ .f32)
    (h : (⟨3, ![R, K, N]⟩ : Shape).ReducesTo [2] (Mat R K)) (hu : 0 < (⟨0, ![]⟩ : Shape).numel) (r : Fin R) (k : Fin K) :
    Host.reduceAdd x v h hu (ix2 r k) = v (Shape.Idx.first hu) + ∑ j, x (ix3 r k j) := by
  pointwise

/-- A row that is not empty has a greatest element. -/
theorem exists_greatest {n : ℕ} (f : Fin (n + 1) → EReal) : ∃ i, ∀ j, f j ≤ f i := Finite.exists_max f

/-- A row's minimum is its least element. -/
theorem fold_min_eq {f : Fin N → EReal} {i : Fin N} (hi : ∀ j, f i ≤ f j) : Finset.univ.fold min ⊤ f = f i := by
  refine le_antisymm ?_ (by rw [Finset.le_fold_min]; simp [hi])
  rw [Finset.fold_min_le]
  exact .inr ⟨i, Finset.mem_univ i, le_rfl⟩

/-- A row's maximum is its greatest element. -/
theorem fold_max_eq {f : Fin N → EReal} {i : Fin N} (hi : ∀ j, f j ≤ f i) : Finset.univ.fold max ⊥ f = f i := by
  refine le_antisymm (by rw [Finset.fold_max_le]; simp [hi]) ?_
  rw [Finset.le_fold_max]
  exact .inr ⟨i, Finset.mem_univ i, le_rfl⟩

/-- An injective map of a row's places as a permutation. -/
def permOf (p : Fin N → Fin N) (h : Function.Injective p) : Equiv.Perm (Fin N) :=
  Equiv.ofBijective p (Finite.injective_iff_bijective.1 h)

/-- Every place is the image of one. -/
theorem permOf_surjective (p : Fin N → Fin N) (h : Function.Injective p) (i : Fin N) : ∃ k, p k = i :=
  (permOf p h).surjective i

/-- A sum over a row in another order. -/
theorem sum_permOf (p : Fin N → Fin N) (h : Function.Injective p) (f : Fin N → ℝ) : ∑ j, f (p j) = ∑ j, f j :=
  Equiv.sum_comp (permOf p h) f

/-- A left fold of additions is a sum. -/
theorem foldl_add_eq {M : Type} [AddCommMonoid M] {n : ℕ} (g : Fin n → M) (l : List (Fin n)) (a : M) :
    l.foldl (fun r k => r + g k) a = a + (l.map g).sum := by
  induction l generalizing a with
  | nil => simp
  | cons k l ih => rw [List.foldl_cons, ih, List.map_cons, List.sum_cons, add_assoc]

/-- A window as long as the row and padded so that it ends at the place read sums the row's elements up to that place. -/
theorem cumsum_row (n : ℕ) (x : FVec Ideal (Mat R (n + 1)) .f32) (v : FVec Ideal ⟨0, ![]⟩ .f32) (hv : ∀ i, v i = 0)
    (h : (Mat R (n + 1)).ReduceWindows (![1, n + 1] : Fin 2 → ℕ) ![1, 1] ![0, n] ![0, 0] (Mat R (n + 1)))
    (hu : 0 < (⟨0, ![]⟩ : Shape).numel) (r : Fin R) (k : Fin (n + 1)) :
    Host.reduceWindowAdd ![1, n + 1] ![1, 1] ![0, n] ![0, 0] x v h hu (ix2 r k)
      = ∑ j, if j ≤ k then x (ix2 r j) else 0 := by
  have hk := k.isLt
  show Host.reduceWindow (s := Mat R (n + 1)) (u := ⟨0, ![]⟩) (α := EReal) (· + ·) ![1, n + 1] ![1, 1] ![0, n] ![0, 0] x
    (fun _ => v (Shape.Idx.first hu)) h hu (ix2 r k) = _
  unfold Host.reduceWindow
  dsimp only
  rw [foldl_add_eq, hv, zero_add, ← List.ofFn_eq_map, List.sum_ofFn]
  have e : ∀ m : Fin (Routing.shape2 1 (n + 1)).numel,
      ((Routing.shape2 1 (n + 1)).rowMajor.symm m 0).val = 0
        ∧ ((Routing.shape2 1 (n + 1)).rowMajor.symm m 1).val = m.val := fun m => by
    constructor <;> rw [Routing.symm2] <;> rfl
  refine (Fintype.sum_equiv (finCongr (Routing.numel2 (n + 1))) _
    (fun w : Fin (n + 1) => if n ≤ k.val + w.val then x (ix2 r ⟨k.val + w.val - n, by have := w.isLt; omega⟩) else 0)
    fun m => ?_).trans ?_
  · obtain ⟨e0, e1⟩ := e m
    have hm : m.val < n + 1 := (m.cast (Routing.numel2 _)).isLt
    show _ = if n ≤ k.val + m.val then x (ix2 r ⟨k.val + m.val - n, _⟩) else 0
    split
    · next hin =>
      have h1 := hin 1
      change n ≤ k.val * 1 + ((Routing.shape2 1 (n + 1)).rowMajor.symm m 1).val
        ∧ k.val * 1 + ((Routing.shape2 1 (n + 1)).rowMajor.symm m 1).val - n < n + 1 at h1
      rw [e1] at h1
      rw [if_pos (by omega)]
      refine congrArg x (funext fun a => Fin.ext ?_)
      match a with
      | ⟨0, _⟩ =>
        show r.val * 1 + ((Routing.shape2 1 (n + 1)).rowMajor.symm m 0).val - 0 = r.val
        omega
      | ⟨1, _⟩ =>
        show k.val * 1 + ((Routing.shape2 1 (n + 1)).rowMajor.symm m 1).val - n = k.val + m.val - n
        omega
    · next hin =>
      rw [if_neg fun hle => hin fun a => by
        match a with
        | ⟨0, _⟩ =>
          show 0 ≤ r.val * 1 + ((Routing.shape2 1 (n + 1)).rowMajor.symm m 0).val
            ∧ r.val * 1 + ((Routing.shape2 1 (n + 1)).rowMajor.symm m 0).val - 0 < R
          have := r.isLt
          omega
        | ⟨1, _⟩ =>
          show n ≤ k.val * 1 + ((Routing.shape2 1 (n + 1)).rowMajor.symm m 1).val
            ∧ k.val * 1 + ((Routing.shape2 1 (n + 1)).rowMajor.symm m 1).val - n < n + 1
          omega]
  · rw [← Finset.sum_filter, ← Finset.sum_filter]
    refine Finset.sum_bij' (fun w _ => ⟨k.val + w.val - n, by have := w.isLt; omega⟩)
      (fun j hj => ⟨j.val + n - k.val, by have := Fin.le_def.1 (Finset.mem_filter.1 hj).2; omega⟩)
      (fun w hw => ?_) (fun j hj => ?_) (fun w hw => ?_) (fun j hj => ?_) fun w hw => rfl
    · have := w.isLt
      exact Finset.mem_filter.2 ⟨Finset.mem_univ _, Fin.le_def.2 (by show k.val + w.val - n ≤ k.val; omega)⟩
    · exact Finset.mem_filter.2 ⟨Finset.mem_univ _, by show n ≤ k.val + (j.val + n - k.val); omega⟩
    · have := (Finset.mem_filter.1 hw).2
      exact Fin.ext (by show k.val + w.val - n + n - k.val = w.val; omega)
    · have := Fin.le_def.1 (Finset.mem_filter.1 hj).2
      exact Fin.ext (by show k.val + (j.val + n - k.val) - n = j.val; omega)

/-- The element a stable sort of a row's places puts at `k`. -/
theorem sort_row {α : Type} (c : α × BitVec 32 → α × BitVec 32 → BitVec 1) (x : (Mat R N).Idx → α)
    (y : IVec (Mat R N) 32) (r : Fin R) (k : Fin N) :
    (Host.sort2 (Mat R N) 1 c x y).2 (ix2 r k)
      = y (ix2 r (sortedFrom (fun i j => c (x (ix2 r i), y (ix2 r i)) (x (ix2 r j), y (ix2 r j)) == 1#1) k)) := by
  have e : ∀ j : Fin N, (ix2 r k : (Mat R N).Idx).along 1 j = ix2 r j := fun j => by
    rw [eq_ix2 ((ix2 r k : (Mat R N).Idx).along 1 j)]
    rfl
  unfold Host.sort2
  rw [dif_pos (show 1 < (Mat R N).rank from Nat.one_lt_two)]
  exact congrArg y ((e _).trans (congrArg (fun f => ix2 r (sortedFrom f k)) (funext₂ fun i j =>
    congrArg₂ (fun a b => c (x a, y a) (x b, y b) == 1#1) (e i) (e j))))

/-- The places of the rows sorted and then reversed. -/
theorem order_row {α : Type} (c : α × BitVec 32 → α × BitVec 32 → BitVec 1) (x : (Mat R N).Idx → α) (r : Fin R) (k : Fin N) :
    Host.reverse [1] (Host.sort2 (Mat R N) 1 c x (iotaInDim (Mat R N) 32 1)).2 (ix2 r k)
      = BitVec.ofNat 32 (sortedFrom (fun i j => c (x (ix2 r i), iotaInDim (Mat R N) 32 1 (ix2 r i))
          (x (ix2 r j), iotaInDim (Mat R N) 32 1 (ix2 r j)) == 1#1) k.rev).val := by
  have e : Host.reverse [1] (Host.sort2 (Mat R N) 1 c x (iotaInDim (Mat R N) 32 1)).2 (ix2 r k)
      = (Host.sort2 (Mat R N) 1 c x (iotaInDim (Mat R N) 32 1)).2 (ix2 r k.rev) := by
    generalize (Host.sort2 (Mat R N) 1 c x (iotaInDim (Mat R N) 32 1)).2 = v
    show v _ = v _
    refine congrArg v (funext fun a => ?_)
    match a with
    | ⟨0, _⟩ => exact if_neg (show (0 : Fin 2) ∉ [1] by decide)
    | ⟨1, _⟩ => exact if_pos (show (1 : Fin 2) ∈ [1] by decide)
  rw [e, sort_row]
  rfl

/-- A take along the rows reads, at `(r, k)`, the row's element at the place its index names. -/
theorem gather_row {α : Type} (d : GatherDims (Mat R N) ⟨3, ![R, N, 1]⟩ (Mat R N)) (ho : d.offsetDims = [])
    (hc : d.collapsedSliceDims = [1]) (hb : d.operandBatchingDims = [0]) (hs : d.startIndicesBatchingDims = [0])
    (hm : d.startIndexMap = [1]) (hv : d.indexVectorDim = 2) (hz : d.sliceSizes = ![1, 1])
    (x : (Mat R N).Idx → α) (i : IVec ⟨3, ![R, N, 1]⟩ 32) (r : Fin R) (k p : Fin N) (hN : N < 2 ^ 31)
    (hi : i (ix3 r k 0) = BitVec.ofNat 32 p.val) : Host.gather d x i (ix2 r k) = x (ix2 r p) := by
  obtain ⟨od, cd, bd, sd, sm, vd, sz, wf⟩ := d
  dsimp only at ho hc hb hs hm hv hz
  subst ho hc hb hs hm hv hz
  unfold Host.gather
  refine congrArg x (funext fun a => Fin.ext ?_)
  have hp := p.isLt
  generalize hd : (GatherDims.mk [] [1] [0] [0] [1] 2 ![1, 1] wf : GatherDims (Mat R N) ⟨3, ![R, N, 1]⟩ (Mat R N)) = d
  show d.start (ix2 r k) i a + d.batchCoord (ix2 r k) a + d.offCoord (ix2 r k) a = _
  have h01 : a = 0 ∨ a = 1 := by
    match a with
    | ⟨0, _⟩ => exact .inl rfl
    | ⟨1, _⟩ => exact .inr rfl
  rcases h01 with rfl | rfl
  · rw [GatherDims.start_batching _ _ _ _ (by rw [← hd]; exact List.mem_singleton.mpr rfl),
      GatherDims.offCoord_eq_zero _ _ _ (fun h => ((GatherDims.mem_sKept _ _).mp h).2 (by rw [← hd]; exact List.mem_singleton.mpr rfl)),
      Nat.zero_add, Nat.add_zero]
    unfold GatherDims.batchCoord
    subst hd
    rw [dif_pos (List.mem_singleton.mpr rfl)]
    rfl
  · rw [GatherDims.batchCoord_eq_zero _ _ _ (fun h => by rw [← hd] at h; simp at h),
      GatherDims.offCoord_eq_zero _ _ _ (fun h => ((GatherDims.mem_sKept _ _).mp h).1 (by rw [← hd]; exact List.mem_singleton.mpr rfl)),
      Nat.add_zero]
    subst hd
    unfold GatherDims.start
    rw [dif_pos (List.mem_singleton.mpr rfl)]
    have hsi : (GatherDims.mk [] [1] [0] [0] [1] 2 ![1, 1] wf : GatherDims (Mat R N) ⟨3, ![R, N, 1]⟩ (Mat R N)).siIdx
        (ix2 r k) ⟨List.idxOf (1 : Fin 2) [1], List.idxOf_lt_length_iff.2 (List.mem_singleton.mpr rfl)⟩ = ix3 r k 0 := by
      funext b; refine Fin.ext ?_
      match b with
      | ⟨0, _⟩ => rfl
      | ⟨1, _⟩ => rfl
      | ⟨2, _⟩ => rfl
    have hw : (i (ix3 r k 0)).toInt.toNat = p.val := by
      rw [hi, WordCmp.toInt_ofNat_of_lt (by omega)]; rfl
    refine (congrArg (fun q => min (i q).toInt.toNat (N - 1)) hsi).trans ?_
    show min (i (ix3 r k 0)).toInt.toNat (N - 1) = p.val
    rw [hw]; omega

/-- A scatter of a column of updates at the index word zero changes the first column only. -/
theorem scatter_first {α : Type} (d : ScatterDims (Mat R N) ⟨1, ![1]⟩ (Mat R 1)) (huw : d.updateWindowDims = [0, 1])
    (hiw : d.insertedWindowDims = []) (hsd : d.scatterDimsToOperandDims = [1]) (x : (Mat R N).Idx → α)
    (i : IVec ⟨1, ![1]⟩ 32) (hi : ∀ q, i q = 0#32) (u : (Mat R 1).Idx → α) (r : Fin R) (k : Fin N) :
    Host.scatter d (fun _ b => b) x i u (ix2 r k) = if k.val = 0 then u (ix2 r 0) else x (ix2 r k) := by
  have hk : d.sKept = [0, 1] := by
    show (Mat R N).kept d.insertedWindowDims = _
    rw [hiw]; rfl
  have hst : ∀ (j : (Mat R 1).Idx) (a : Fin 2), d.start j i a = 0 := fun j a => by
    unfold ScatterDims.start
    split
    · rw [hi]; rfl
    · rfl
  have hwin : ∀ (j : (Mat R 1).Idx) (a : Fin 2), d.window j a = (j a).val := fun j a => by
    obtain ⟨uw, iw, sd, vd, wf⟩ := d
    dsimp only at huw hiw hsd
    subst huw hiw hsd
    unfold ScatterDims.window
    match a with
    | ⟨0, _⟩ => rfl
    | ⟨1, _⟩ => rfl
  have hland : ∀ (j : (Mat R 1).Idx), d.resultIdx? j i = some (ix2 r k) ↔ (j 0).val = r.val ∧ (j 1).val = k.val := fun j => by
    rw [Routing.resultIdx?_eq_some]
    simp only [hst, hwin]
    constructor
    · intro h
      have h0 := h 0
      have h1 := h 1
      simp only [ix2_0, ix2_1] at h0 h1
      omega
    · rintro ⟨h0, h1⟩ a
      match a with
      | ⟨0, _⟩ => show 0 + ((j 0).val : ℤ) = (r.val : ℤ); omega
      | ⟨1, _⟩ => show 0 + ((j 1).val : ℤ) = (k.val : ℤ); omega
  by_cases h : k.val = 0
  · rw [if_pos h]
    refine Routing.scatter_set_hit d x i u _ _ (fun j hj => ?_) (ix2 r 0) ((hland _).2 ⟨rfl, h.symm⟩)
    obtain ⟨h0, h1⟩ := (hland j).1 hj
    rw [eq_ix2 j]
    refine congrArg u ((ix2_inj _ _ _ _).2 ⟨Fin.ext h0, Fin.ext ?_⟩)
    exact h1.trans h
  · rw [if_neg h]
    refine Routing.scatter_set_miss d x i u _ fun j hj => ?_
    have h1 := ((hland j).1 hj).2
    have := (j 1).isLt
    have h2 : (j 1).val < 1 := this
    omega

/-- A scatter of single elements, each to the row and the place that its two words name, where no two name the same: the
    element named by update `(r, k)` becomes that update. -/
theorem scatter_pairs {α : Type} (d : ScatterDims (Mat R N) ⟨3, ![R, N, 2]⟩ (Mat R N))
    (hiw : d.insertedWindowDims = [0, 1]) (hsd : d.scatterDimsToOperandDims = [0, 1]) (hivd : d.indexVectorDim = 2)
    (x : (Mat R N).Idx → α) (i : IVec ⟨3, ![R, N, 2]⟩ 32) (u : (Mat R N).Idx → α) (hR : R < 2 ^ 31) (hN : N < 2 ^ 31)
    (p : Fin R → Fin N → Fin N) (hp : ∀ r, Function.Injective (p r))
    (h0 : ∀ r k, i (ix3 r k 0) = BitVec.ofNat 32 r.val) (h1 : ∀ r k, i (ix3 r k 1) = BitVec.ofNat 32 (p r k).val)
    (r : Fin R) (k : Fin N) : Host.scatter d (fun _ b => b) x i u (ix2 r (p r k)) = u (ix2 r k) := by
  have hland : ∀ (a : Fin R) (b : Fin N), d.resultIdx? (ix2 a b) i = some (ix2 r (p r k)) ↔ a = r ∧ b = k := fun a b => by
    have h := Routing.scatter_lands2 d hiw hsd hivd i a b r (p r k)
    simp only [← ix2_eq_valueIdx, ← ix3_eq_valueIdx] at h
    have ha := a.isLt
    have hq := (p a b).isLt
    rw [h, h0, h1, WordCmp.toInt_ofNat_of_lt (by omega), WordCmp.toInt_ofNat_of_lt (by omega)]
    constructor
    · rintro ⟨e0, e1⟩
      obtain rfl : a = r := Fin.ext (by omega)
      exact ⟨rfl, hp a (Fin.ext (by omega))⟩
    · rintro ⟨rfl, rfl⟩; exact ⟨rfl, rfl⟩
  refine Routing.scatter_set_hit d x i u _ _ (fun j hj => ?_) (ix2 r k) ((hland r k).2 ⟨rfl, rfl⟩)
  rw [eq_ix2 j] at hj ⊢
  obtain ⟨e0, e1⟩ := (hland _ _).1 hj
  rw [e0, e1]

end Cert.RefOps

end
-- ==== Proof.RefRow.lean ====
/- The reference's functions read at an index of a row. -/
module

public import proofs.«01_k».proof.Proof.Reference
public import proofs.«01_k».proof.Proof.RefOps
public import proofs.«01_k».proof.Proof.Weights
public import proofs.«01_k».proof.Proof.Consts

@[expose] public section

set_option maxRecDepth 16384

noncomputable section

namespace Cert.Nucleus

open Cert.ReferenceIdeal Cert.ReferenceIdeal.Gen Idealize.ShloMosaic Cert.RefOps Cert.Weights

/-- The scaled logit at an index. -/
theorem logits_apply (a b : Rows) (r : Fin 128) (k : Fin 100000) :
    logits a b (ix2 r k) = (a (ix2 r k) + b (ix2 r k)) * ((16777216 / 11744051 : ℝ) : EReal) := by
  pointwise [logits]
  rw [Consts.temperature, Ideal.div_coe (by norm_num)]
  norm_num

theorem spread_apply (v : FVec Ideal S128 .f32) (r : Fin 128) (k : Fin 100000) : spread v (ix2 r k) = v (ix1 r) := by
  pointwise [spread]

/-- Each row's maximum. -/
def rowMax (x : Rows) : FVec Ideal S128 .f32 :=
  Host.reduce FloatOps.maximumf x (constant (F := Ideal) S_ .f32 0xFF800000#32) reducesTo_S128x100000_S128_d1 h_S_

/-- Each row's sum. -/
def rowSum (x : Rows) : FVec Ideal S128 .f32 :=
  Host.reduceAdd x (constant (F := Ideal) S_ .f32 0x00000000#32) reducesTo_S128x100000_S128_d1 h_S_

theorem rowMax_apply (x : Rows) (r : Fin 128) (i : Fin 100000) (hi : ∀ j, x (ix2 r j) ≤ x (ix2 r i)) :
    rowMax x (ix1 r) = x (ix2 r i) := by
  have h := reduceMax_row x (constant (F := Ideal) S_ .f32 0xFF800000#32) reducesTo_S128x100000_S128_d1 h_S_ r
  have hb : constant (F := Ideal) S_ .f32 0xFF800000#32 (Shape.Idx.first h_S_) = (⊥ : EReal) := Consts.negInf
  rw [hb, fold_max_eq hi] at h
  exact h

theorem rowSum_apply (x : Rows) (r : Fin 128) : rowSum x (ix1 r) = ∑ j, x (ix2 r j) := by
  have h := reduceAdd_row x (constant (F := Ideal) S_ .f32 0x00000000#32) reducesTo_S128x100000_S128_d1 h_S_ r
  have hb : constant (F := Ideal) S_ .f32 0x00000000#32 (Shape.Idx.first h_S_) = (0 : EReal) := Ideal.ofBits_zero_f32
  rw [hb, zero_add] at h
  exact h

/-- An exponential of an element less a value of its row. -/
theorem exp_sub_spread (x : Rows) (v : FVec Ideal S128 .f32) (r : Fin 128) (k : Fin 100000) :
    Host.exp (subf x (spread (maximumf (broadcastInDim S128 ![] bcast_S_S128 (constant (F := Ideal) S_ .f32 0xFF800000#32)) v)))
        (ix2 r k)
      = Ideal.exp (x (ix2 r k) - v (ix1 r)) := by
  have hs : spread (maximumf (broadcastInDim S128 ![] bcast_S_S128 (constant (F := Ideal) S_ .f32 0xFF800000#32)) v) (ix2 r k)
      = v (ix1 r) := by
    rw [spread_apply]
    show max (Ideal.ofBits .f32 0xFF800000#32) (v (ix1 r)) = _
    rw [Consts.negInf]
    exact max_eq_right bot_le
  show Ideal.exp (x (ix2 r k) - _) = _
  rw [hs]

/-- The exponential of an element less its row's greatest one. -/
theorem exps_apply (x : Rows) (r : Fin 128) (k i : Fin 100000) (hi : ∀ j, x (ix2 r j) ≤ x (ix2 r i)) :
    exps x (ix2 r k) = Ideal.exp (x (ix2 r k) - x (ix2 r i)) := by
  have h := exp_sub_spread x (rowMax x) r k
  rw [rowMax_apply x r i hi] at h
  exact h

theorem div_spread (x : Rows) (v : FVec Ideal S128 .f32) (r : Fin 128) (k : Fin 100000) :
    Host.divf x (spread v) (ix2 r k) = Ideal.div (x (ix2 r k)) (v (ix1 r)) := by
  rw [← spread_apply v r k]
  rfl

/-- A row's softmax: each element's weight over the row's sum of weights. -/
theorem softmax_apply (x : Rows) (r : Fin 128) (M : ℝ) (hM : ∀ j, x (ix2 r j) ≤ M) (hi : ∃ i, x (ix2 r i) = M)
    (k : Fin 100000) :
    softmax x (ix2 r k) = ((weight M (x (ix2 r k)) * (1 / ∑ j, weight M (x (ix2 r j))) : ℝ) : EReal) := by
  obtain ⟨i, hi⟩ := hi
  have he : ∀ j, exps x (ix2 r j) = (weight M (x (ix2 r j)) : EReal) := fun j => by
    rw [exps_apply x r j i (fun j => (hM j).trans hi.ge), hi, exp_eq (hM j)]
  have hsum : rowSum (exps x) (ix1 r) = ((∑ j, weight M (x (ix2 r j)) : ℝ) : EReal) := by
    rw [rowSum_apply, coe_sum]
    exact Finset.sum_congr rfl fun j _ => he j
  have hpos : (∑ j, weight M (x (ix2 r j))) ≠ 0 := by
    have h1 : weight M (x (ix2 r i)) ≤ ∑ j, weight M (x (ix2 r j)) :=
      Finset.single_le_sum (f := fun j => weight M (x (ix2 r j))) (fun j _ => weight_nonneg (hM j)) (Finset.mem_univ i)
    rw [hi, weight_top] at h1
    linarith
  have h := div_spread (exps x) (rowSum (exps x)) r k
  rw [hsum, he, Ideal.div_coe hpos, ← EReal.coe_mul] at h
  exact h

/-- Zero for a zero and the pattern `0x7FC00000` for what differs from itself leave an extended real as it is. -/
theorem canonical_eq (x : Ideal .f32) :
    Scalar.select (FloatOps.cmpf .une x x) (FloatOps.ofBits .f32 0x7FC00000#32)
      (Scalar.select (FloatOps.cmpf .oeq x (FloatOps.ofBits .f32 0x00000000#32)) (FloatOps.ofBits .f32 0x00000000#32) x) = x := by
  have h1 : FloatOps.cmpf .une x x = 0#1 := by
    show BitVec.ofBool (decide (x ≠ x)) = 0#1
    simp
  have h2 : Scalar.select (FloatOps.cmpf .oeq x (FloatOps.ofBits .f32 0x00000000#32)) (FloatOps.ofBits .f32 0x00000000#32) x = x := by
    show Scalar.select (BitVec.ofBool (decide (x = Ideal.ofBits .f32 0x00000000#32))) (Ideal.ofBits .f32 0x00000000#32) x = x
    by_cases h : x = Ideal.ofBits .f32 0x00000000#32
    · rw [← h]; simp [Scalar.select]
    · rw [decide_eq_false h]; rfl
  rw [h1, h2]
  rfl

/-- The comparison that sorts the places is that of the elements. -/
theorem comparator_eq (l s : Ideal .f32 × BitVec 32) :
    (comparator_f32_i32_d1 (F := Ideal) l s == 1#1) = decide (l.1 < s.1) := by
  have h : comparator_f32_i32_d1 (F := Ideal) l s = BitVec.ofBool (decide (l.1 < s.1)) := by
    unfold comparator_f32_i32_d1
    dsimp only
    rw [canonical_eq, canonical_eq]
    rfl
  rw [h]
  by_cases h : l.1 < s.1 <;> simp [h]

/-- The place at `k` of row `r` sorted from its greatest element down. -/
def place (x : Rows) (r : Fin 128) (k : Fin 100000) : Fin 100000 :=
  sortedFrom (fun i j => decide (x (ix2 r i) < x (ix2 r j))) k.rev

theorem place_injective (x : Rows) (r : Fin 128) : Function.Injective (place x r) := fun a b h =>
  Fin.rev_injective (sortedFrom_injective _ h)

theorem place_antitone (x : Rows) (r : Fin 128) : Antitone fun k => x (ix2 r (place x r k)) := by
  intro i j hij
  rcases hij.eq_or_lt with rfl | hij
  · exact le_rfl
  have h := sortedFrom_noInversion (fun i j : Fin 100000 => decide (x (ix2 r i) < x (ix2 r j)))
    (fun i j : Fin 100000 => decide (x (ix2 r i) < x (ix2 r j)))
    (fun a b h => by simp only [decide_eq_true_eq, decide_eq_false_iff_not, not_lt] at h ⊢; exact h.le)
    (fun a b h => h)
    (fun a b c h1 h2 => by simp only [decide_eq_false_iff_not, not_lt] at h1 h2 ⊢; exact h2.trans h1)
    j.rev i.rev (Fin.rev_lt_rev.2 hij)
  simp only [decide_eq_false_iff_not, not_lt] at h
  exact h

theorem order_apply (x : Rows) (r : Fin 128) (k : Fin 100000) :
    order x (ix2 r k) = BitVec.ofNat 32 (place x r k).val := by
  have h := order_row (comparator_f32_i32_d1 (F := Ideal)) x r k
  simp only [comparator_eq] at h
  exact h

/-- Places written as words are in the row. -/
theorem wrapped_apply (i : IVec S128x100000 32) (r : Fin 128) (k p : Fin 100000) (hi : i (ix2 r k) = BitVec.ofNat 32 p.val) :
    wrapped i (ix2 r k) = BitVec.ofNat 32 p.val := by
  have hp := p.isLt
  pointwise [wrapped]
  rw [Routing.wrap_of_lt _ _ (by rw [hi, WordCmp.toNat_ofNat_of_lt] <;> omega), hi]

theorem take_apply (x : Rows) (i : IVec S128x100000 32) (p : Fin 128 → Fin 100000 → Fin 100000)
    (hi : ∀ r k, i (ix2 r k) = BitVec.ofNat 32 (p r k).val) (r : Fin 128) (k : Fin 100000) :
    take x i (ix2 r k) = x (ix2 r (p r k)) := by
  have hw : ∀ r k l, shapeCast S128x100000x1 (wrapped i) shapeCasts_S128x100000_S128x100000x1 (ix3 r k l)
      = BitVec.ofNat 32 (p r k).val := fun r k l => by
    refine Eq.trans ?_ (wrapped_apply i r k _ (hi r k))
    generalize wrapped i = w
    pointwise
  unfold take
  generalize shapeCast S128x100000x1 (wrapped i) shapeCasts_S128x100000_S128x100000x1 = w at hw ⊢
  have hin : ∀ q, inRow w q = 1#1 := fun q => by
    obtain ⟨a, b, c, rfl⟩ : ∃ (a : Fin 128) (b : Fin 100000) (c : Fin 1), q = ix3 a b c := ⟨_, _, _, eq_ix3 q⟩
    have hp := (p a b).isLt
    pointwise [inRow]
    rw [hw, (WordCmp.cmpi_sge_ofNat_eq_one_iff (a := (p a b).val) (b := 0) (by omega) (by omega)).2 (Nat.zero_le _),
      (WordCmp.cmpi_sle_ofNat_eq_one_iff (a := (p a b).val) (b := 99999) (by omega) (by omega)).2 (by omega)]
    rfl
  have hred := Host.reduce_andi_one (inRow w) (constantI S_ 1 1#1) reducesTo_S128x100000x1_S128x100000_d2 h_S_ (ix2 r k) rfl hin
  show Scalar.select (Host.reduce IntOp.andi (inRow w) (constantI S_ 1 1#1) reducesTo_S128x100000x1_S128x100000_d2 h_S_ (ix2 r k))
    (Host.gather gather_S128x100000_S128x100000x1_S128x100000_n_1_0_0_1_2_11 x w (ix2 r k)) _ = _
  rw [hred]
  exact gather_row gather_S128x100000_S128x100000x1_S128x100000_n_1_0_0_1_2_11 rfl rfl rfl rfl rfl rfl rfl x w r k (p r k)
    (by norm_num) (hw r k 0)

theorem cumsum_apply (x : Rows) (r : Fin 128) (k : Fin 100000) :
    cumsum x (ix2 r k) = ∑ j, if j ≤ k then x (ix2 r j) else 0 :=
  cumsum_row 99999 x _ (fun _ => Ideal.ofBits_zero_f32) reduceWindows_S128x100000_S128x100000_w1s1p0_0_w100000s1p99999_0 h_S_ r k

theorem above_apply (x : Rows) (r : Fin 128) (k : Fin 100000) :
    cmpf .ogt x (broadcastInDim S128x100000 ![] bcast_S_S128x100000 (constant (F := Ideal) S_ .f32 0x3F666666#32)) (ix2 r k)
      = BitVec.ofBool (decide (((15099494 / 16777216 : ℝ) : EReal) < x (ix2 r k))) := by
  show Ideal.cmp .ogt (x (ix2 r k)) (Ideal.ofBits .f32 0x3F666666#32) = _
  rw [Consts.topP]
  rfl

/-- The mark of a place in sorted order. -/
theorem removed_apply (s : Rows) (r : Fin 128) (k : Fin 100000) :
    removed s (ix2 r k) = if k.val = 0 then 0#1
      else BitVec.ofBool (decide (((15099494 / 16777216 : ℝ) : EReal) < cumsum (softmax s) (ix2 r k))) := by
  rw [← above_apply]
  exact scatter_first scatter_S128x100000_S1_S128x1_01_n_1_0 rfl rfl rfl _ _ (fun _ => rfl) _ r k

theorem pairs_zero (i : IVec S128x100000 32) (r : Fin 128) (k : Fin 100000) :
    pairs i (ix3 r k 0) = BitVec.ofNat 32 r.val := by
  have hr := r.isLt
  generalize hw : wrapped i = w
  unfold pairs
  rw [hw]
  pointwise [rowWord]
  exact Routing.wrap_of_lt _ _ (by rw [WordCmp.toNat_ofNat_of_lt] <;> omega)

theorem pairs_one (i : IVec S128x100000 32) (r : Fin 128) (k p : Fin 100000) (hi : i (ix2 r k) = BitVec.ofNat 32 p.val) :
    pairs i (ix3 r k 1) = BitVec.ofNat 32 p.val := by
  refine Eq.trans ?_ (wrapped_apply i r k p hi)
  unfold pairs
  generalize wrapped i = w
  generalize rowWord = v
  pointwise

/-- The mark put back at a place of the row's own order is that of the place in sorted order. -/
theorem putBack_apply (i : IVec S128x100000 32) (u : IVec S128x100000 1) (p : Fin 128 → Fin 100000 → Fin 100000)
    (hp : ∀ r, Function.Injective (p r)) (hi : ∀ r k, i (ix2 r k) = BitVec.ofNat 32 (p r k).val)
    (r : Fin 128) (k : Fin 100000) : putBack i u (ix2 r (p r k)) = u (ix2 r k) :=
  scatter_pairs scatter_S128x100000_S128x100000x2_S128x100000_n_01_01_2 rfl rfl rfl _ _ u (by norm_num) (by norm_num) p hp
    (pairs_zero i) (fun r k => pairs_one i r k _ (hi r k)) r k

end Cert.Nucleus

end
-- ==== Proof.RefResult.lean ====
/- A row of the reference's result, and what the precondition says of a row. -/
module

public import proofs.«01_k».proof.Proof.RefRow
public import proofs.«01_k».proof.Proof.Bisect

@[expose] public section

set_option maxRecDepth 16384

noncomputable section

namespace Cert.Nucleus

open Cert.ReferenceIdeal Cert.ReferenceIdeal.Gen Idealize.ShloMosaic Cert.RefOps Cert.Weights

/-- The rows sorted from their greatest element down. -/
def sorted (x : Rows) : Rows := take x (order x)

theorem sorted_apply (x : Rows) (r : Fin 128) (k : Fin 100000) : sorted x (ix2 r k) = x (ix2 r (place x r k)) :=
  take_apply x (order x) (place x) (order_apply x) r k

/-- Which places in sorted order are removed, over the reals: those whose running sum of weights exceeds the given share of
    the row's sum, the first place excepted. -/
def Cut (w : Fin 100000 → ℝ) (σ : Fin 100000 → Fin 100000) (k : Fin 100000) : Prop :=
  k.val ≠ 0 ∧ 15099494 / 16777216 * ∑ j, w j < ∑ j, if j ≤ k then w (σ j) else 0

/-- The first place holds the row's greatest element. -/
theorem place_zero (x : Rows) (r : Fin 128) {M : EReal} (hM : ∀ j, x (ix2 r j) ≤ M) (hi : ∃ i, x (ix2 r i) = M) :
    x (ix2 r (place x r 0)) = M := by
  obtain ⟨i, hi⟩ := hi
  obtain ⟨k, rfl⟩ := permOf_surjective (place x r) (place_injective x r) i
  refine le_antisymm (hM _) (hi.symm.trans_le ?_)
  exact place_antitone x r (Fin.zero_le k)

theorem andi_eq_one {a b : BitVec 1} (h : IntOp.andi a b = 1#1) : a = 1#1 ∧ b = 1#1 := by
  revert a b; decide

theorem gap_of_ori {a b c : BitVec 1} (h : IntOp.ori (IntOp.ori a (~~~b)) c = 1#1) (ha : a ≠ 1#1) (hb : b = 1#1) : c = 1#1 := by
  revert a b c; decide

variable (x : Rows) (r : Fin 128) {M : ℝ} (hM : ∀ j, x (ix2 r j) ≤ M) (hi : ∃ i, x (ix2 r i) = M)

include hM hi

/-- The row's sum of weights is at least one. -/
theorem one_le_sum : 1 ≤ ∑ j, weight M (x (ix2 r j)) := by
  obtain ⟨i, hi⟩ := hi
  have h1 : weight M (x (ix2 r i)) ≤ ∑ j, weight M (x (ix2 r j)) :=
    Finset.single_le_sum (f := fun j => weight M (x (ix2 r j))) (fun j _ => weight_nonneg (hM j)) (Finset.mem_univ i)
  rwa [hi, weight_top] at h1

/-- The softmax of a row whose logits of weight below `θ` are replaced by minus infinity: the weights that are at least `θ`,
    over their sum. -/
theorem softmax_kept (y : Rows) (θ : ℝ) (hθ : θ ≤ 1)
    (hy : ∀ j, y (ix2 r j) = if θ ≤ weight M (x (ix2 r j)) then x (ix2 r j) else ⊥) (j : Fin 100000) :
    softmax y (ix2 r j)
      = (((if θ ≤ weight M (x (ix2 r j)) then weight M (x (ix2 r j)) else 0)
          * (1 / Bisect.mass (fun j => weight M (x (ix2 r j))) θ) : ℝ) : EReal) := by
  have hw : ∀ j, weight M (y (ix2 r j)) = if θ ≤ weight M (x (ix2 r j)) then weight M (x (ix2 r j)) else 0 := fun j => by
    rw [hy]
    split
    · rfl
    · exact weight_bot
  obtain ⟨i, hi⟩ := hi
  have h := softmax_apply y r M
    (fun j => by
      rw [hy]
      split
      · exact hM j
      · exact bot_le)
    ⟨i, by rw [hy, hi, weight_top, if_pos hθ]⟩ j
  simp only [hw] at h
  exact h

/-- The running sums of the sorted row's softmax. -/
theorem cumsum_sorted (k : Fin 100000) :
    cumsum (softmax (sorted x)) (ix2 r k)
      = (((∑ j, if j ≤ k then weight M (x (ix2 r (place x r j))) else 0) * (1 / ∑ j, weight M (x (ix2 r j))) : ℝ) : EReal) := by
  have hz : ∑ j, weight M (x (ix2 r (place x r j))) = ∑ j, weight M (x (ix2 r j)) :=
    sum_permOf (place x r) (place_injective x r) fun j => weight M (x (ix2 r j))
  have hs := softmax_apply (sorted x) r M (fun j => by rw [sorted_apply]; exact hM _)
    ⟨0, by rw [sorted_apply]; exact place_zero x r hM hi⟩
  simp only [sorted_apply, hz] at hs
  rw [cumsum_apply, Finset.sum_mul, coe_sum]
  refine Finset.sum_congr rfl fun j _ => ?_
  rw [hs]
  split
  · rfl
  · rw [zero_mul, EReal.coe_zero]

/-- A mark is set where the place is cut. -/
theorem removed_sorted (k : Fin 100000) :
    removed (sorted x) (ix2 r k) = 1#1 ↔ Cut (fun j => weight M (x (ix2 r j))) (place x r) k := by
  have hz := one_le_sum x r hM hi
  rw [removed_apply, cumsum_sorted x r hM hi]
  unfold Cut
  by_cases hk : k.val = 0
  · rw [if_pos hk]; simp [hk]
  · rw [if_neg hk, WordCmp.ofBool_decide_eq_one_iff, EReal.coe_lt_coe_iff, mul_one_div, lt_div_iff₀ (by linarith)]
    exact ⟨fun h => ⟨hk, h⟩, fun h => h.2⟩

/-- A row of the result: the weights that are at least `θ`, over their sum, where `θ` tells the kept places from the cut. -/
theorem result_row (θ : ℝ)
    (hθ : ∀ k, θ ≤ weight M (x (ix2 r (place x r k))) ↔ ¬ Cut (fun j => weight M (x (ix2 r j))) (place x r) k)
    (j : Fin 100000) :
    result x (ix2 r j)
      = (((if θ ≤ weight M (x (ix2 r j)) then weight M (x (ix2 r j)) else 0)
          * (1 / Bisect.mass (fun j => weight M (x (ix2 r j))) θ) : ℝ) : EReal) := by
  have hy : ∀ k, filtered x (putBack (order x) (removed (sorted x))) (ix2 r (place x r k))
      = if θ ≤ weight M (x (ix2 r (place x r k))) then x (ix2 r (place x r k)) else ⊥ := fun k => by
    show Scalar.select (putBack (order x) (removed (sorted x)) (ix2 r (place x r k))) (Ideal.ofBits .f32 0xFF800000#32)
      (x (ix2 r (place x r k))) = _
    rw [putBack_apply (order x) (removed (sorted x)) (place x) (place_injective x) (order_apply x) r k, Consts.negInf]
    have h := removed_sorted x r hM hi k
    by_cases hc : Cut (fun j => weight M (x (ix2 r j))) (place x r) k
    · rw [if_neg (fun h' => (hθ k).1 h' hc), h.2 hc]; rfl
    · rw [if_pos ((hθ k).2 hc)]
      unfold Scalar.select
      exact if_neg fun h' => hc (h.1 h')
  have hy' : ∀ j, filtered x (putBack (order x) (removed (sorted x))) (ix2 r j)
      = if θ ≤ weight M (x (ix2 r j)) then x (ix2 r j) else ⊥ := fun j => by
    obtain ⟨k, rfl⟩ := permOf_surjective (place x r) (place_injective x r) j
    exact hy k
  refine softmax_kept x r hM hi _ θ ?_ hy' j
  have h := (hθ 0).2 fun h => h.1 rfl
  rwa [place_zero x r hM hi, weight_top] at h

omit hM hi

/-- An extended real whose absolute value is less than infinity is a real number. -/
theorem real_of_abs_lt {y : EReal} (h : max y (-y) < ⊤) : ∃ M : ℝ, y = M := by
  obtain ⟨hu, hl⟩ := max_lt_iff.1 h
  refine ⟨y.toReal, (EReal.coe_toReal hu.ne fun e => ?_).symm⟩
  rw [e, EReal.neg_bot] at hl
  exact lt_irrefl _ hl

/-- Where the precondition's finding on the first column holds, the row's greatest logit is a real number. -/
theorem finite_row (s : Rows) (h : finite s (ix2 r 0) = 1#1) : ∃ M : ℝ, s (ix2 r 0) = M := by
  have h' : FloatOps.absf (F := Ideal) (s (ix2 r 0)) < Ideal.ofBits .f32 0x7F800000#32 := by
    pointwise [finite] at h
    exact (WordCmp.ofBool_decide_eq_one_iff _).1 h
  rw [Consts.posInf] at h'
  exact real_of_abs_lt h'

/-- Where the precondition's finding on neighbours holds, a kept place followed by a removed one has its logit the
    resolution above the other. -/
theorem gaps_row (s : Rows) (k : Fin 99999) (h : gaps s (ix2 r k) = 1#1)
    (h0 : removed s (ix2 r ⟨k.val, by omega⟩) ≠ 1#1) (h1 : removed s (ix2 r ⟨1 + k.val, by omega⟩) = 1#1) :
    ((17 / 1024 : ℝ) : EReal) ≤ s (ix2 r ⟨k.val, by omega⟩) - s (ix2 r ⟨1 + k.val, by omega⟩) := by
  unfold gaps at h
  generalize removed s = v at h h0 h1
  pointwise at h
  rw [← Consts.resolution]
  exact (WordCmp.ofBool_decide_eq_one_iff _).1 (gap_of_ori h h0 h1)

/-- The precondition of a row: its greatest logit is a real number, and a kept place followed by a cut one has its logit the
    resolution above the other. -/
theorem pre_row (a b : Rows) (h : Cert.Pre_separated.fn (F := Ideal) a b = fun _ => 1#1) (r : Fin 128) :
    finite (sorted (logits a b)) (ix2 r 0) = 1#1 ∧ ∀ k : Fin 99999, gaps (sorted (logits a b)) (ix2 r k) = 1#1 := by
  rw [pre_eq] at h
  have h0 := congrFun h (fun a => a.elim0)
  haveI : Subsingleton Cert.Pre_separated.S_.Idx := ⟨fun i j => funext fun a => a.elim0⟩
  obtain ⟨h1, h2⟩ := andi_eq_one h0
  exact ⟨Host.reduce_andi_all _ _ _ _ _ h1 _, fun k => Host.reduce_andi_all _ _ _ _ _ h2 _⟩

end Cert.Nucleus

end
-- ==== Proof.Whole.lean ====
/- The kernel's result array after the run, an element at a time: row `r` is row `r mod 16` of what the kernel computes from
   block `r / 16` of the two arguments. -/
module

public import proofs.«01_k».proof.Proof.Block
public import proofs.«01_k».proof.Proof.Gen.KernelIdeal.Value
public import Idealize.ShloMosaic.Lib.Pointwise

@[expose] public section

set_option maxRecDepth 16384

noncomputable section

namespace Cert.KernelIdeal.Whole

open Cert.KernelIdeal Cert.KernelIdeal.Gen Cert.KernelIdeal.Value Idealize.ShloMosaic Idealize.ShloMosaic.TcCoe Idealize.SL.Sem

/-- Sixteen rows of an array, from row `16 t`. -/
def rows (t : Fin 8) (a : Vec Ideal S128x100000 .f32) : Vec Ideal S16x100000 .f32 := fun i =>
  a (ix2 ⟨t.val * 16 + (i 0).val, by have h : (i 0).val < 16 := (i 0).isLt; omega⟩ (i 1))

/-- The result array as one function of the argument arrays. -/
def whole (a b : Vec Ideal S128x100000 .f32) : Vec Ideal S128x100000 .f32 := fun i =>
  Block.out (F := Ideal) (rows ⟨(i 0).val / 16, by have h : (i 0).val < 128 := (i 0).isLt; omega⟩ a)
    (rows ⟨(i 0).val / 16, by have h : (i 0).val < 128 := (i 0).isLt; omega⟩ b)
    (ix2 ⟨(i 0).val % 16, Nat.mod_lt _ (by norm_num)⟩ (i 1))

variable (m : (ℓ : Loc nD τ sig) → Buf (Elt Ideal) ℓ) (ρ : Dev nD → PrngReg)

/-- Each window's block at grid point `t` is the `t`-th of its rows. -/
theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)

theorem count : cfg0.N = 8 := by decide +kernel

theorem lt_count (t : Fin cfg0.N) : t.val < 8 := t.isLt.trans_eq count

/-- An index of a block in its array. -/
def at_ (t : Fin cfg0.N) (j : S16x100000.Idx) : S128x100000.Idx :=
  ix2 ⟨t.val * 16 + (j 0).val, by have h : (j 0).val < 16 := (j 0).isLt; have := lt_count t; omega⟩ (j 1)

theorem emb0 (t : Fin cfg0.N) (j : S16x100000.Idx) : ((cfg0.win 0).blk t).view.emb j = at_ t j := by
  obtain ⟨e0, e1⟩ := idx0 t
  funext a; apply Fin.ext
  match a with
  | ⟨0, _⟩ => show win0_0.index t (0 : Fin 2) * 16 + 1 * (j 0).val = t.val * 16 + (j 0).val; omega
  | ⟨1, _⟩ => show win0_0.index t (1 : Fin 2) * 100000 + 1 * (j 1).val = (j 1).val; omega

theorem emb1 (t : Fin cfg0.N) (j : S16x100000.Idx) : ((cfg0.win 1).blk t).view.emb j = at_ t j := by
  obtain ⟨e0, e1⟩ := idx1 t
  funext a; apply Fin.ext
  match a with
  | ⟨0, _⟩ => show win0_1.index t (0 : Fin 2) * 16 + 1 * (j 0).val = t.val * 16 + (j 0).val; omega
  | ⟨1, _⟩ => show win0_1.index t (1 : Fin 2) * 100000 + 1 * (j 1).val = (j 1).val; omega

theorem emb2 (t : Fin cfg0.N) (j : S16x100000.Idx) : ((cfg0.win 2).blk t).view.emb j = at_ t j := by
  obtain ⟨e0, e1⟩ := idx2 t
  funext a; apply Fin.ext
  match a with
  | ⟨0, _⟩ => show win0_2.index t (0 : Fin 2) * 16 + 1 * (j 0).val = t.val * 16 + (j 0).val; omega
  | ⟨1, _⟩ => show win0_2.index t (1 : Fin 2) * 100000 + 1 * (j 1).val = (j 1).val; omega

/-- An input window's block is sixteen rows of its array. -/
theorem iblk0_eq (c : Dev nD) (t : Fin cfg0.N) : iblk m c 0 t = rows ⟨t.val, lt_count t⟩ (V m c main_arg0) := by
  funext j
  show V m c main_arg0 (((cfg0.win 0).blk t).view.emb j) = _
  rw [emb0]
  rfl

theorem iblk1_eq (c : Dev nD) (t : Fin cfg0.N) : iblk m c 1 t = rows ⟨t.val, lt_count t⟩ (V m c main_arg1) := by
  funext j
  show V m c main_arg1 (((cfg0.win 1).blk t).view.emb j) = _
  rw [emb1]
  rfl

/-- At an index of block `t` the whole result is that of the block. -/
theorem whole_at (t : Fin cfg0.N) (a b : Vec Ideal S128x100000 .f32) (j : S16x100000.Idx) :
    whole a b (at_ t j) = Block.out (F := Ideal) (rows ⟨t.val, lt_count t⟩ a) (rows ⟨t.val, lt_count t⟩ b) j := by
  have hj : (j 0).val < 16 := (j 0).isLt
  have e1 : (⟨(at_ t j 0).val / 16, by have h : (at_ t j 0).val < 128 := (at_ t j 0).isLt; omega⟩ : Fin 8) = ⟨t.val, lt_count t⟩ :=
    Fin.ext (by show (t.val * 16 + (j 0).val) / 16 = t.val; omega)
  have e2 : (⟨(at_ t j 0).val % 16, Nat.mod_lt _ (by norm_num)⟩ : Fin 16) = j 0 :=
    Fin.ext (by show (t.val * 16 + (j 0).val) % 16 = (j 0).val; omega)
  unfold whole
  rw [e1, e2]
  exact congrArg _ (eq_ix2 j).symm

/-- What a point writes back is its block of the whole result. -/
theorem flushed2_eq (c : Dev nD) (t : Fin cfg0.N) :
    (dats m 0 c).flushed 2 t = ((cfg0.win 2).blk t).view.read (Elt Ideal) (whole (V m c main_arg0) (V m c main_arg1)) := by
  rw [flushed2_A, Block.out_eq, iblk0_eq, iblk1_eq]
  funext j
  show Block.out (F := Ideal) _ _ j = whole _ _ (((cfg0.win 2).blk t).view.emb j)
  rw [emb2, whole_at]

/-- Every index of the result array is in some point's block. -/
theorem covered2 (i : S128x100000.Idx) :
    ∃ t : Fin cfg0.N, (cfg0.win 2).flush t = true ∧ i ∈ ((cfg0.win 2).blk t).view.set := by
  have hi : (i 0).val < 128 := (i 0).isLt
  let t : Fin cfg0.N := ⟨(i 0).val / 16, by rw [count]; omega⟩
  let j : S16x100000.Idx := ix2 ⟨(i 0).val % 16, Nat.mod_lt _ (by norm_num)⟩ (i 1)
  refine ⟨t, flush0_2 _, ?_⟩
  have h := ((cfg0.win 2).blk t).view.emb_mem_set j
  rw [emb2] at h
  have e : at_ t j = i := by
    refine Eq.trans ?_ (eq_ix2 i).symm
    refine congrArg (fun q => ix2 q (i 1)) (Fin.ext ?_)
    show (i 0).val / 16 * 16 + (i 0).val % 16 = (i 0).val
    omega
  rwa [e] at h

/-- The result array after the run. -/
theorem final2 (c : Dev nD) : (dats m 0 c).arrAt 2 cfg0.N
    = whole (m ((c : Thread nD τ).loc main_arg0)) (m ((c : Thread nD τ).loc main_arg1)) :=
  ((dats m 0 c).arrAt_eq_of_cover 2 (whole (V m c main_arg0) (V m c main_arg1)) (fun t _ => flushed2_eq m c t) covered2).trans
    (by rw [V_main_arg0, V_main_arg1])

/-- The kernel's run: the result array at its function of the arguments, the arguments unchanged. -/
theorem run : θ_run defs (onTc (τ := τ) (main (F := Ideal))) ⟨m, fun _ => 0, ρ⟩ fun r => ∀ c : Dev nD,
      r.2.mem ((c : Thread nD τ).loc main_v0)
        = whole (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final2 m c), (h c).2⟩) (run_blocks m ρ)

end Cert.KernelIdeal.Whole

end
-- ==== Proof.Equal.lean ====
/- Under the precondition the kernel's result is the reference's. -/
module

public import proofs.«01_k».proof.Proof.BlockRow
public import proofs.«01_k».proof.Proof.RefResult
public import proofs.«01_k».proof.Proof.Whole

@[expose] public section

set_option maxRecDepth 16384

noncomputable section

namespace Cert.Equal

open Idealize.ShloMosaic Cert.Weights Cert.Nucleus Cert.KernelIdeal

/-- For a row's weights: the threshold that the ten halvings find tells the kept places from the cut. -/
theorem threshold_iff (w : Fin 100000 → ℝ) (h0 : ∀ i, 0 ≤ w i) (h1 : ∀ i, w i ≤ 1) (σ : Fin 100000 → Fin 100000)
    (hσ : Function.Injective σ) (hanti : Antitone fun k => w (σ k)) (htop : w (σ 0) = 1)
    (hgap : ∀ k : Fin 99999, ¬ Cut w σ ⟨k.val, by omega⟩ → Cut w σ ⟨1 + k.val, by omega⟩ →
      Real.exp (17 / 1024) * w (σ ⟨1 + k.val, by omega⟩) ≤ w (σ ⟨k.val, by omega⟩)) :
    Bisect.Good w (Block.frac * ∑ j, w j) (17 / 2 ^ 10) (Block.Found w)
      ∧ ∀ k, Block.Threshold w ≤ w (σ k) ↔ ¬ Cut w σ k := by
  have hg : Bisect.Good w (Block.frac * ∑ j, w j) (17 / 2 ^ 10) (Block.Found w) :=
    Bisect.iterate_good (Bisect.start_good w le_rfl h0 h1 ⟨_, htop⟩ (by unfold Block.frac; norm_num)
      (by unfold Block.frac; norm_num)) 10
  have hz : 1 ≤ ∑ j, w j := htop ▸ Finset.single_le_sum (f := w) (fun j _ => h0 j) (Finset.mem_univ (σ 0))
  refine ⟨hg, fun k => ?_⟩
  refine Bisect.kept_iff (n := 99999) w h0 h1 (RefOps.permOf σ hσ) hanti htop hg (by norm_num)
    (by unfold Block.frac; linarith) (by norm_num) (Cut w σ) (fun k => ?_) (fun k hk hk' => ?_) k
  · exact and_congr (not_congr ⟨fun h => Fin.ext h, fun h => congrArg Fin.val h⟩) Iff.rfl
  · have e : (k.succ : Fin (99999 + 1)) = ⟨1 + k.val, by omega⟩ := Fin.ext (Nat.add_comm _ _)
    rw [e] at hk' ⊢
    have := hgap k hk hk'
    norm_num at this ⊢
    exact this

/-- A row of the kernel's result: the weights that are at least the threshold found, over their sum. -/
theorem whole_row (a b : Rows) (r : Fin 128) {M : ℝ} (hM : ∀ j, logits a b (ix2 r j) ≤ M) (hi : ∃ i, logits a b (ix2 r i) = M)
    (w : Fin 100000 → ℝ) (hw : ∀ j, weight M (logits a b (ix2 r j)) = w j) {T W : ℝ} (hg : Bisect.Good w T W (Block.Found w))
    (j : Fin 100000) :
    Whole.whole a b (ix2 r j)
      = (((if Block.Threshold w ≤ w j then w j else 0) * (1 / Bisect.mass w (Block.Threshold w)) : ℝ) : EReal) := by
  obtain ⟨i, hi⟩ := hi
  have hr : r.val / 16 * 16 + r.val % 16 = r.val := by omega
  have hs : ∀ k : Fin 100000, Block.scaled
      (Whole.rows ⟨r.val / 16, by omega⟩ a (ix2 ⟨r.val % 16, Nat.mod_lt _ (by norm_num)⟩ k))
      (Whole.rows ⟨r.val / 16, by omega⟩ b (ix2 ⟨r.val % 16, Nat.mod_lt _ (by norm_num)⟩ k)) = logits a b (ix2 r k) := fun k => by
    rw [logits_apply]
    have e : (⟨r.val / 16 * 16 + r.val % 16, by omega⟩ : Fin 128) = r := Fin.ext hr
    exact congrArg (fun q => (a (ix2 q k) + b (ix2 q k)) * ((16777216 / 11744051 : ℝ) : EReal)) e
  have hp := Block.weights_row (Whole.rows ⟨r.val / 16, by omega⟩ a) (Whole.rows ⟨r.val / 16, by omega⟩ b)
    ⟨r.val % 16, Nat.mod_lt _ (by norm_num)⟩ (M := M) (fun k => (hs k).trans_le (hM k)) ⟨i, (hs _).trans hi⟩
  simp only [hs, hw] at hp
  refine Block.finish_row (w := w) hp hg ?_ j
  have h2 : w i = 1 := by rw [← hw, hi, weight_top]
  have h1 : Block.Threshold w ≤ w i := h2 ▸ min_le_right _ _
  have h3 : (if Block.Threshold w ≤ w i then w i else 0) ≤ Bisect.mass w (Block.Threshold w) :=
    Finset.single_le_sum (f := fun j => if Block.Threshold w ≤ w j then w j else 0)
      (fun j _ => by split; exacts [hw j ▸ weight_nonneg (hM j), le_rfl]) (Finset.mem_univ i)
  rw [if_pos h1, h2] at h3
  linarith

/-- Under the precondition the kernel's result is the reference's. -/
theorem whole_eq (a b : Rows) (h : Cert.Pre_separated.fn (F := Ideal) a b = fun _ => 1#1) :
    Whole.whole a b = result (logits a b) := by
  funext i
  obtain ⟨r, j, rfl⟩ : ∃ (r : Fin 128) (j : Fin 100000), i = ix2 r j := ⟨_, _, eq_ix2 i⟩
  obtain ⟨hf, hgap⟩ := pre_row a b h r
  have hwhole := @whole_row a b r
  generalize logits a b = x at hf hgap hwhole ⊢
  obtain ⟨M, hS⟩ := finite_row r (sorted x) hf
  rw [sorted_apply] at hS
  have hi : ∃ i, x (ix2 r i) = M := ⟨_, hS⟩
  have hM : ∀ j, x (ix2 r j) ≤ M := fun j => by
    obtain ⟨k, rfl⟩ := RefOps.permOf_surjective (place x r) (place_injective x r) j
    exact (place_antitone x r (Fin.zero_le k)).trans hS.le
  obtain ⟨hg, hθ⟩ := threshold_iff (fun j => weight M (x (ix2 r j))) (fun j => weight_nonneg (hM j))
    (fun j => weight_le_one (hM j)) (place x r)
    (place_injective x r) (fun j k hjk => weight_mono (hM _) (place_antitone x r hjk))
    (by show weight M (x (ix2 r (place x r 0))) = 1; rw [hS, weight_top]) (fun k hk hk' => by
      refine weight_gap (hM _) (hM _) ?_
      have hg := gaps_row r (sorted x) k (hgap k) (fun h' => hk ((removed_sorted x r hM hi _).1 h'))
        ((removed_sorted x r hM hi _).2 hk')
      rwa [sorted_apply, sorted_apply] at hg)
  rw [result_row x r hM hi (Block.Threshold _) hθ j]
  exact hwhole hM hi _ (fun j => rfl) hg j

end Cert.Equal

end
-- ==== Proof.Leveled.lean ====
/- The reference that cuts on evenly spaced levels, and its precondition, as compositions of a few functions, and these read
   at an index. -/
module

public import proofs.«01_k».proof.Proof.RefRow
public import proofs.«01_k».proof.Proof.Gen.LeveledIdeal.Run
public import proofs.«01_k».proof.Proof.Gen.Pre_bounded

@[expose] public section

set_option maxRecDepth 16384

noncomputable section

namespace Cert.Leveled

open Cert.LeveledIdeal Cert.LeveledIdeal.Gen Idealize.ShloMosaic Idealize.ShloMosaic.TcCoe Idealize.SL.Sem
open Cert.Nucleus (Rows logits spread softmax rowMax rowSum)
open Cert.RefOps

/-- The logits less their row's largest. -/
def below (x : Rows) : Rows := subf x (spread (rowMax x))

/-- The evenly spaced levels. -/
def levels : FVec Ideal S1025 .f32 :=
  addf (broadcastInDim S1025 ![] bcast_S_S1025 (constant S_ .f32 0xC1800000#32))
    (mulf (broadcastInDim S1025 ![] bcast_S_S1025 (constant S_ .f32 0x3C880000#32)) (sitofp .f32 (iotaInDim S1025 32 0)))

/-- The weights at and above each level, the others as zero. -/
def atLeast (d w : Rows) (l : FVec Ideal S1025 .f32) : FVec Ideal S128x1025x100000 .f32 :=
  select
    (cmpf .oge
      (broadcastInDim S128x1025x100000 ![0, 1, 2] bcast_S128x1x100000_S128x1025x100000_0_1_2
        (broadcastInDim S128x1x100000 ![0, 2] bcast_S128x100000_S128x1x100000_0_2 d))
      (broadcastInDim S128x1025x100000 ![0, 1, 2] bcast_S1x1025x1_S128x1025x100000_0_1_2
        (broadcastInDim S1x1025x1 ![1, 2] bcast_S1025x1_S1x1025x1_1_2 (broadcastInDim S1025x1 ![0] bcast_S1025_S1025x1_0 l))))
    (broadcastInDim S128x1025x100000 ![0, 1, 2] bcast_S128x1x100000_S128x1025x100000_0_1_2
      (broadcastInDim S128x1x100000 ![0, 2] bcast_S128x100000_S128x1x100000_0_2 w))
    (broadcastInDim S128x1025x100000 ![] bcast_S_S128x1025x100000 (id (constant S_ .f32 0x00000000#32)))

/-- The mass of each row at and above each level. -/
def massAt (d w : Rows) (l : FVec Ideal S1025 .f32) : FVec Ideal S128x1025 .f32 :=
  Host.reduceAdd (atLeast d w l) (constant S_ .f32 0x00000000#32) reducesTo_S128x1025x100000_S128x1025_d2 h_S_

/-- The levels at which the mass is within the given share of the row's, the others as infinity. -/
def withinShare (mass : FVec Ideal S128x1025 .f32) (z : FVec Ideal S128 .f32) (l : FVec Ideal S1025 .f32) :
    FVec Ideal S128x1025 .f32 :=
  select
    (cmpf .ole mass
      (broadcastInDim S128x1025 ![0, 1] bcast_S128x1_S128x1025_0_1
        (mulf (broadcastInDim S128x1 ![] bcast_S_S128x1 (constant S_ .f32 0x3F666666#32))
          (broadcastInDim S128x1 ![0] bcast_S128_S128x1_0 z))))
    (broadcastInDim S128x1025 ![1] bcast_S1025_S128x1025_1 l)
    (broadcastInDim S128x1025 ![] bcast_S_S128x1025 (id (constant S_ .f32 0x7F800000#32)))

/-- Each row's least element. -/
def rowMin (v : FVec Ideal S128x1025 .f32) : FVec Ideal S128 .f32 :=
  Host.reduce FloatOps.minimumf v (constant S_ .f32 0x7F800000#32) reducesTo_S128x1025_S128_d1 h_S_

/-- Each row's cut. -/
def cut (x : Rows) : FVec Ideal S128 .f32 :=
  rowMin (withinShare (massAt (below x) (Host.exp (below x)) levels) (rowSum (Host.exp (below x))) levels)

/-- The logits with minus infinity where they lie below the cut `v` and below the largest. -/
def filtered (x d : Rows) (v : FVec Ideal S128 .f32) : Rows :=
  select (ori (cmpf .oge d (spread v)) (cmpf .oge d (broadcastInDim S128x100000 ![] bcast_S_S128x100000 (constant S_ .f32 0x00000000#32))))
    x (broadcastInDim S128x100000 ![] bcast_S_S128x100000 (id (constant S_ .f32 0xFF800000#32)))

/-- The reference on scaled logits. -/
def result (x : Rows) : Rows := softmax (filtered x (below x) (cut x))

set_option maxHeartbeats 4000000 in
/-- The reference's result is `result` of the scaled logits. -/
theorem res_eq (m : (ℓ : Loc nD τ sig) → Buf (Elt Ideal) ℓ) (c : Dev nD) :
    Cert.LeveledIdeal.Value.res_main_v50 m c
      = result (logits (m ((c.tc : Thread nD τ).loc main_arg0)) (m ((c.tc : Thread nD τ).loc main_arg1))) := by
  unfold Cert.LeveledIdeal.Value.res_main_v50
  rfl

/-- The precondition's finding on each row: its largest logit is finite. -/
def finite (v : FVec Ideal S128 .f32) : IVec Cert.Pre_bounded.S128 1 :=
  cmpf .olt (Host.absf v) (broadcastInDim Cert.Pre_bounded.S128 ![] Cert.Pre_bounded.Gen.bcast_S_S128 (constant S_ .f32 0x7F800000#32))

/-- The precondition: all of the rows' findings. -/
theorem pre_eq (a b : Rows) :
    Cert.Pre_bounded.fn (F := Ideal) a b
      = Host.reduce IntOp.andi (finite (rowMax (logits a b))) (constantI S_ 1 1#1)
          Cert.Pre_bounded.Gen.reducesTo_S128_S_d0 Cert.Pre_bounded.Gen.h_S_ := by
  unfold Cert.Pre_bounded.fn
  rfl

/-- The level at `k`. -/
theorem levels_apply (k : Fin 1025) : levels (ix1 k) = ((-16 + 17 / 1024 * k.val : ℝ) : EReal) := by
  have hk := k.isLt
  have e : ((BitVec.ofNat 32 k.val).toInt : ℝ) = (k.val : ℝ) := by
    rw [WordCmp.toInt_ofNat_of_lt (by omega)]; norm_cast
  show Ideal.ofBits .f32 0xC1800000#32
    + Ideal.ofBits .f32 0x3C880000#32 * (((BitVec.ofNat 32 k.val).toInt : ℝ) : EReal) = _
  rw [Consts.minus16, Consts.resolution, e, EReal.coe_add, EReal.coe_mul]

theorem below_apply (x : Rows) (r : Fin 128) (j : Fin 100000) : below x (ix2 r j) = x (ix2 r j) - rowMax x (ix1 r) := by
  rw [← Nucleus.spread_apply (rowMax x) r j]
  rfl

theorem atLeast_apply (d w : Rows) (l : FVec Ideal S1025 .f32) (r : Fin 128) (k : Fin 1025) (j : Fin 100000) :
    atLeast d w l (ix3 r k j) = if l (ix1 k) ≤ d (ix2 r j) then w (ix2 r j) else 0 := by
  pointwise [atLeast]
  exact if_congr Iff.rfl rfl Ideal.ofBits_zero_f32

theorem massAt_apply (d w : Rows) (l : FVec Ideal S1025 .f32) (r : Fin 128) (k : Fin 1025) :
    massAt d w l (ix2 r k) = ∑ j, if l (ix1 k) ≤ d (ix2 r j) then w (ix2 r j) else 0 := by
  have h := reduceAdd_table (atLeast d w l) (constant (F := Ideal) S_ .f32 0x00000000#32)
    reducesTo_S128x1025x100000_S128x1025_d2 h_S_ r k
  have hb : constant (F := Ideal) S_ .f32 0x00000000#32 (Shape.Idx.first h_S_) = (0 : EReal) := Ideal.ofBits_zero_f32
  rw [hb, zero_add] at h
  simp only [atLeast_apply] at h
  exact h

theorem withinShare_apply (v : FVec Ideal S128x1025 .f32) (z : FVec Ideal S128 .f32) (l : FVec Ideal S1025 .f32) (r : Fin 128)
    (k : Fin 1025) : withinShare v z l (ix2 r k)
      = if v (ix2 r k) ≤ ((15099494 / 16777216 : ℝ) : EReal) * z (ix1 r) then l (ix1 k) else ⊤ := by
  have hz : (constant (F := Ideal) S_ .f32 0x7F800000#32) ix0 = (⊤ : EReal) := Consts.posInf
  have h : withinShare v z l (ix2 r k)
      = if v (ix2 r k) ≤ Ideal.ofBits .f32 0x3F666666#32 * z (ix1 r) then l (ix1 k)
        else (constant (F := Ideal) S_ .f32 0x7F800000#32) ix0 := by
    pointwise [withinShare]
    rfl
  rw [h, hz, Consts.topP]

theorem rowMin_apply (v : FVec Ideal S128x1025 .f32) (r : Fin 128) (i : Fin 1025) (hi : ∀ j, v (ix2 r i) ≤ v (ix2 r j)) :
    rowMin v (ix1 r) = v (ix2 r i) := by
  have h := reduceMin_row v (constant (F := Ideal) S_ .f32 0x7F800000#32) reducesTo_S128x1025_S128_d1 h_S_ r
  have hb : constant (F := Ideal) S_ .f32 0x7F800000#32 (Shape.Idx.first h_S_) = (⊤ : EReal) := Consts.posInf
  rw [hb, fold_min_eq hi] at h
  exact h

theorem filtered_apply (x d : Rows) (v : FVec Ideal S128 .f32) (r : Fin 128) (j : Fin 100000) :
    filtered x d v (ix2 r j) = if v (ix1 r) ≤ d (ix2 r j) ∨ 0 ≤ d (ix2 r j) then x (ix2 r j) else ⊥ := by
  have h : filtered x d v (ix2 r j)
      = Scalar.select (IntOp.ori (BitVec.ofBool (decide (spread v (ix2 r j) ≤ d (ix2 r j))))
          (BitVec.ofBool (decide (Ideal.ofBits .f32 0x00000000#32 ≤ d (ix2 r j))))) (x (ix2 r j)) (Ideal.ofBits .f32 0xFF800000#32) := rfl
  rw [h, Consts.negInf, Ideal.ofBits_zero_f32, Nucleus.spread_apply, WordCmp.ori_ofBool, ← Bool.decide_or]
  by_cases h : v (ix1 r) ≤ d (ix2 r j) ∨ 0 ≤ d (ix2 r j)
  · rw [if_pos h, decide_eq_true h]; rfl
  · rw [if_neg h, decide_eq_false h]; rfl

theorem finite_apply (v : FVec Ideal S128 .f32) (r : Fin 128) (h : finite v (ix1 r) = 1#1) :
    max (v (ix1 r)) (-(v (ix1 r))) < (⊤ : EReal) := by
  rw [← Consts.posInf]
  exact (WordCmp.ofBool_decide_eq_one_iff _).1 h

end Cert.Leveled

end
-- ==== Proof.EqualLeveled.lean ====
/- A row of the reference that cuts on evenly spaced levels; and, where each row's largest logit is finite, the kernel's result
   is that reference's. -/
module

public import proofs.«01_k».proof.Proof.Leveled
public import proofs.«01_k».proof.Proof.Equal

@[expose] public section

set_option maxRecDepth 16384

noncomputable section

namespace Cert.Leveled

open Cert.LeveledIdeal Cert.LeveledIdeal.Gen Idealize.ShloMosaic Cert.Weights
open Cert.KernelIdeal (Block.frac Block.Found Block.Threshold)
open Cert.Nucleus (Rows logits spread softmax rowMax rowSum)

variable (x : Rows) (r : Fin 128) {M : ℝ} (hM : ∀ j, x (ix2 r j) ≤ M) (hi : ∃ i, x (ix2 r i) = M)

include hM hi

theorem below_row (j : Fin 100000) : below x (ix2 r j) = x (ix2 r j) - M := by
  obtain ⟨i, hi⟩ := hi
  rw [below_apply, Nucleus.rowMax_apply x r i (fun j => (hM j).trans hi.ge), hi]

theorem exps_row (j : Fin 100000) : Host.exp (below x) (ix2 r j) = (weight M (x (ix2 r j)) : EReal) := by
  rw [← exp_eq (hM j), ← below_row x r hM hi]
  rfl

/-- The mass at and above a level. -/
theorem mass_row (k : Fin 1025) : massAt (below x) (Host.exp (below x)) levels (ix2 r k)
    = (Bisect.mass (fun j => weight M (x (ix2 r j))) (Real.exp (-16 + 17 / 1024 * k.val)) : EReal) := by
  unfold Bisect.mass
  rw [massAt_apply, coe_sum]
  refine Finset.sum_congr rfl fun j _ => ?_
  rw [levels_apply, below_row x r hM hi, exps_row x r hM hi, coe_ite, EReal.coe_zero]
  exact if_congr (le_sub_iff (hM j) _) rfl rfl

/-- The share of a row's sum. -/
theorem share_row : ((15099494 / 16777216 : ℝ) : EReal) * rowSum (Host.exp (below x)) (ix1 r)
    = ((Block.frac * ∑ j, weight M (x (ix2 r j)) : ℝ) : EReal) := by
  rw [Nucleus.rowSum_apply, EReal.coe_mul, coe_sum]
  simp only [exps_row x r hM hi]
  rfl

/-- What the halvings find of a row. -/
theorem found_good : Bisect.Good (fun j => weight M (x (ix2 r j))) (Block.frac * ∑ j, weight M (x (ix2 r j))) (17 / 2 ^ 10)
    (Block.Found fun j => weight M (x (ix2 r j))) := by
  obtain ⟨i, hi⟩ := hi
  exact Bisect.iterate_good (Bisect.start_good _ le_rfl (fun j => weight_nonneg (hM j)) (fun j => weight_le_one (hM j))
    ⟨i, by rw [hi, weight_top]⟩ (by unfold Block.frac; norm_num) (by unfold Block.frac; norm_num)) 10

/-- A row's cut is the upper end that the halvings find. -/
theorem cut_row : cut x (ix1 r) = ((Block.Found fun j => weight M (x (ix2 r j))).hi : EReal) := by
  have hg := found_good x r hM hi
  obtain ⟨a, ha, hl, hh⟩ := Bisect.iterate_grid (fun j => weight M (x (ix2 r j)))
    (Block.frac * ∑ j, weight M (x (ix2 r j))) 10
  norm_num at ha
  have hv : ∀ k : Fin 1025, withinShare (massAt (below x) (Host.exp (below x)) levels) (rowSum (Host.exp (below x))) levels
      (ix2 r k) = if a + 1 ≤ k.val then ((-16 + 17 / 1024 * k.val : ℝ) : EReal) else ⊤ := fun k => by
    rw [withinShare_apply, mass_row x r hM hi, share_row x r hM hi, levels_apply]
    have h := Bisect.within_iff (fun j => weight_nonneg (hM j)) (by norm_num) hg hl hh k.val
    norm_num only at h
    exact if_congr (EReal.coe_le_coe_iff.trans h) rfl rfl
  unfold cut
  rw [rowMin_apply _ r ⟨a + 1, by omega⟩ (fun k => ?_), hv, if_pos le_rfl]
  · show _ = ((((Bisect.halve _ _)^[10] _).hi : ℝ) : EReal)
    rw [hh]
    norm_num
  · rw [hv, hv, if_pos le_rfl]
    split
    · next h =>
      rw [EReal.coe_le_coe_iff]
      have : ((a + 1 : ℕ) : ℝ) ≤ k.val := by exact_mod_cast h
      linarith
    · exact le_top

/-- A row of the result: the weights that are at least the threshold that the halvings find, over their sum. -/
theorem result_row (j : Fin 100000) : result x (ix2 r j)
    = (((if Block.Threshold (fun j => weight M (x (ix2 r j))) ≤ weight M (x (ix2 r j)) then weight M (x (ix2 r j)) else 0)
        * (1 / Bisect.mass (fun j => weight M (x (ix2 r j))) (Block.Threshold fun j => weight M (x (ix2 r j)))) : ℝ) : EReal) := by
  refine Nucleus.softmax_kept x r hM hi _ _ (min_le_right _ _) (fun j => ?_) j
  rw [filtered_apply, cut_row x r hM hi, below_row x r hM hi, ← EReal.coe_zero]
  refine if_congr ?_ rfl rfl
  rw [le_sub_iff (hM j), le_sub_iff (hM j), Real.exp_zero]
  exact min_le_iff.symm

omit hM hi

/-- Where the precondition's finding holds, the row's largest logit is a real number. -/
theorem bounded_row (h : finite (rowMax x) (ix1 r) = 1#1) :
    ∃ M : ℝ, (∀ j, x (ix2 r j) ≤ M) ∧ ∃ i, x (ix2 r i) = M := by
  obtain ⟨i, hi⟩ := RefOps.exists_greatest (n := 99999) fun j => x (ix2 r j)
  have hm := Nucleus.rowMax_apply x r i hi
  have h' := finite_apply (rowMax x) r h
  rw [hm] at h'
  obtain ⟨M, hM⟩ := Nucleus.real_of_abs_lt h'
  exact ⟨M, fun j => (hi j).trans hM.le, i, hM⟩

/-- Where each row's largest logit is finite, the kernel's result is the reference's. -/
theorem whole_eq (a b : Rows) (h : Cert.Pre_bounded.fn (F := Ideal) a b = fun _ => 1#1) :
    Cert.KernelIdeal.Whole.whole a b = result (logits a b) := by
  rw [pre_eq] at h
  haveI : Subsingleton Cert.Pre_bounded.S_.Idx := ⟨fun i j => funext fun a => a.elim0⟩
  have h := fun r : Fin 128 => Host.reduce_andi_all _ _ _ _ _ (congrFun h (fun a => a.elim0)) (ix1 r)
  funext i
  obtain ⟨r, j, rfl⟩ : ∃ (r : Fin 128) (j : Fin 100000), i = ix2 r j := ⟨_, _, eq_ix2 i⟩
  obtain ⟨M, hM, hi⟩ := bounded_row (logits a b) r (h r)
  rw [result_row _ r hM hi j]
  exact Equal.whole_row a b r hM hi _ (fun _ => rfl) (found_good _ r hM hi) j

end Cert.Leveled

end
-- ==== Proof.lean ====
module

public import proofs.«01_k».proof.Defs
public import proofs.«01_k».proof.Proof.Equal
public import proofs.«01_k».proof.Proof.EqualLeveled
public import proofs.«01_k».proof.Proof.Gen.LeveledIdeal.Run
public import proofs.«01_k».proof.Proof.Gen.LeveledIdeal
public import proofs.«01_k».proof.Proof.Gen.Pre_bounded
public import proofs.«01_k».proof.Proof.Gen.ReferenceIdeal.Run
public import proofs.«01_k».proof.Proof.Gen.KernelIdeal.Value
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_separated
public import Idealize.ShloMosaic.Adequacy
public import Idealize.ShloMosaic.Init
public import Idealize.ShloMosaic.Lib.Quiescent

@[expose] public section

noncomputable section

namespace Cert.Proof

open Idealize.ShloMosaic Idealize.SL.Sem

/-- The program runs and ends quiescent, its arguments unchanged. -/
theorem frame_kernel : Cert.quiescent_Kernel := fun m ρ _ => Cert.Kernel.Gen.frame m ρ

/-- The idealized kernel runs and ends quiescent, its arguments unchanged. -/
theorem frame_ideal : Cert.quiescent_KernelIdeal := fun m ρ _ => Cert.KernelIdeal.Gen.frame m ρ

/-- The reference runs and ends quiescent, its arguments unchanged. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The reference that cuts on levels runs and ends quiescent, its arguments unchanged. -/
theorem frame_leveled : Cert.quiescent_LeveledIdeal := fun m ρ _ =>
  (θ_run Cert.LeveledIdeal.defs _ _).mono
    (fun r h => ⟨fun c => (h c).2, Idealize.ShloMosaic.sem_eq_zero_of_no_sems (by decide) r.2⟩)
    (Cert.LeveledIdeal.Value.run (F := Ideal) m ρ)

/-- The one named constant denotes, in the idealized kernel, the reciprocal of the reference's temperature. -/
theorem preserved : Cert.preserves_Kernel_KernelIdeal :=
  IdealRules.named_const.statement Cert.KernelIdeal.κ "inv_t" .f32 0x3FB6DB6E#32 ((16777216 / 11744051 : ℝ) : EReal) rfl

/-- From arguments that satisfy the precondition the idealized kernel and the reference run to the same result. -/
theorem equal : Cert.algebraic_KernelIdeal_ReferenceIdeal_pre_separated := fun m g m' g' hpre hargs =>
  ⟨fun c => Cert.KernelIdeal.Whole.whole
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Whole.run m g,
    (θ_run Cert.ReferenceIdeal.defs _ _).mono (fun r h c => ⟨(h c).1.trans (by
      rw [Cert.Nucleus.res_eq, (hargs c).1, (hargs c).2]
      exact (Cert.Equal.whole_eq _ _ (hpre c)).symm), (h c).2⟩) (Cert.ReferenceIdeal.Value.run (F := Ideal) m' g')⟩

/-- From arguments whose rows have a finite largest logit the idealized kernel and the reference that cuts on levels run to
    the same result. -/
theorem equal_leveled : Cert.algebraic_KernelIdeal_LeveledIdeal_pre_bounded := fun m g m' g' hpre hargs =>
  ⟨fun c => Cert.KernelIdeal.Whole.whole
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Whole.run m g,
    (θ_run Cert.LeveledIdeal.defs _ _).mono (fun r h c => ⟨(h c).1.trans (by
      rw [Cert.Leveled.res_eq, (hargs c).1, (hargs c).2]
      exact (Cert.Leveled.whole_eq _ _ (hpre c)).symm), (h c).2⟩) (Cert.LeveledIdeal.Value.run (F := Ideal) m' g')⟩

/-- All claims. -/
theorem claim : Cert.Claim :=
  ⟨Cert.Kernel.Gen.facts, Cert.KernelIdeal.Gen.facts, Cert.ReferenceIdeal.Gen.facts, Cert.LeveledIdeal.Gen.facts,
    Cert.Pre_separated.Gen.facts, Cert.Pre_bounded.Gen.facts, frame_kernel, frame_ideal,
    fun m ρ _ => frame_ideal m ρ trivial, fun m ρ _ => frame_ideal m ρ trivial, frame_reference,
    fun m ρ _ => frame_reference m ρ trivial, frame_leveled, fun m ρ _ => frame_leveled m ρ trivial, preserved, equal,
    equal_leveled⟩

end Cert.Proof

end
